-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S8x2048x7 : Shape := ⟨3, ![8, 2048, 7]⟩
abbrev S4680x256 : Shape := ⟨2, ![4680, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8x2048x7 : S_.BroadcastsInDim S8x2048x7 (![] : Fin 0 → Fin S8x2048x7.rank)
  reducesTo_S8x2048x7_S_d0_1_2 : S8x2048x7.ReducesTo [0, 1, 2] S_
  h_S_ : 0 < S_.numel

variable [Facts]

def fn {F : FTy → Type} [FloatOps F] (main_arg0 : FVec F S8x2048x7 .f32) (main_arg1 : FVec F S4680x256 .f32) (main_arg2 : FVec F S256 .f32) (main_arg3 : FVec F S256x1 .f32) (main_arg4 : FVec F S1 .f32) : IVec S_ 1 :=
  let main_v0 : FVec F S8x2048x7 .f32 := Host.absf main_arg0
  let main_cst : FVec F S_ .f32 := constant S_ .f32 0x7F800000#32
  let main_v1 : FVec F S8x2048x7 .f32 := broadcastInDim S8x2048x7 ![] bcast_S_S8x2048x7 main_cst
  let main_v2 : IVec S8x2048x7 1 := cmpf .olt main_v0 main_v1
  let main_c : IVec S_ 1 := constantI S_ 1 1#1
  let main_v3 : IVec S_ 1 := (fun x v => Host.reduce IntOp.andi x v reducesTo_S8x2048x7_S_d0_1_2 h_S_) main_v2 main_c
  main_v3
-- ==== Kernel.lean ====
abbrev S8x2048x7 : Shape := ⟨3, ![8, 2048, 7]⟩
abbrev S4680x256 : Shape := ⟨2, ![4680, 256]⟩
abbrev S256 : Shape := ⟨1, ![256]⟩
abbrev S256x1 : Shape := ⟨2, ![256, 1]⟩
abbrev S1 : Shape := ⟨1, ![1]⟩
abbrev S_ : Shape := ⟨0, ![]⟩
abbrev S2047 : Shape := ⟨1, ![2047]⟩
abbrev S2048 : Shape := ⟨1, ![2048]⟩
abbrev S1x2048x1 : Shape := ⟨3, ![1, 2048, 1]⟩
abbrev S8x2048x1 : Shape := ⟨3, ![8, 2048, 1]⟩
abbrev S8x2048x8 : Shape := ⟨3, ![8, 2048, 8]⟩
abbrev S8x1x8 : Shape := ⟨3, ![8, 1, 8]⟩
abbrev S8x2049x8 : Shape := ⟨3, ![8, 2049, 8]⟩
abbrev S8x128x16x8 : Shape := ⟨4, ![8, 128, 16, 8]⟩
abbrev S8x16x8x128 : Shape := ⟨4, ![8, 16, 8, 128]⟩
abbrev S584x256 : Shape := ⟨2, ![584, 256]⟩
abbrev S4096x256 : Shape := ⟨2, ![4096, 256]⟩
abbrev S8x8x8x8x256 : Shape := ⟨5, ![8, 8, 8, 8, 256]⟩
abbrev S1x256 : Shape := ⟨2, ![1, 256]⟩
abbrev S1x1 : Shape := ⟨2, ![1, 1]⟩
abbrev S8x1x1 : Shape := ⟨3, ![8, 1, 1]⟩
abbrev S1x16x8x128 : Shape := ⟨4, ![1, 16, 8, 128]⟩
abbrev S1x1x1 : Shape := ⟨3, ![1, 1, 1]⟩
abbrev S1x1x8x128 : Shape := ⟨4, ![1, 1, 8, 128]⟩
abbrev S8x128 : Shape := ⟨2, ![8, 128]⟩
abbrev S8x1x128 : Shape := ⟨3, ![8, 1, 128]⟩
abbrev S1x8x128 : Shape := ⟨3, ![1, 8, 128]⟩
abbrev S8x8x128 : Shape := ⟨3, ![8, 8, 128]⟩
abbrev S64x128 : Shape := ⟨2, ![64, 128]⟩
abbrev S1x128 : Shape := ⟨2, ![1, 128]⟩
abbrev S8 : Shape := ⟨1, ![8]⟩
abbrev S8x1 : Shape := ⟨2, ![8, 1]⟩
abbrev S64 : Shape := ⟨1, ![64]⟩
abbrev S64x1 : Shape := ⟨2, ![64, 1]⟩
abbrev S72x1 : Shape := ⟨2, ![72, 1]⟩
abbrev S512x1 : Shape := ⟨2, ![512, 1]⟩
abbrev S4096x1 : Shape := ⟨2, ![4096, 1]⟩
abbrev S72x256 : Shape := ⟨2, ![72, 256]⟩
abbrev S512x256 : Shape := ⟨2, ![512, 256]⟩

abbrev nBuf : Space → Nat
  | .hbm => 49
  | .vmem => 8
  | .smem => 0
  | _ => 0

abbrev bufTy : (tb : Table) → Fin (tcTables nBuf tb) → BufTy
  | .hbm, ⟨0, _⟩ => ⟨S8x2048x7, .f32⟩
  | .hbm, ⟨1, _⟩ => ⟨S4680x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2047, .f32⟩
  | .hbm, ⟨13, _⟩ => ⟨S_, .f32⟩
  | .hbm, ⟨14, _⟩ => ⟨S2047, .f32⟩
  | .hbm, ⟨15, _⟩ => ⟨S2047, .f32⟩
  | .hbm, ⟨16, _⟩ => ⟨S1, .f32⟩
  | .hbm, ⟨17, _⟩ => ⟨S_, .f32⟩
  | .hbm, ⟨18, _⟩ => ⟨S2047, .f32⟩
  | .hbm, ⟨19, _⟩ => ⟨S2047, .f32⟩
  | .hbm, ⟨20, _⟩ => ⟨S2047, .f32⟩
  | .hbm, ⟨21, _⟩ => ⟨S2047, .f32⟩
  | .hbm, ⟨22, _⟩ => ⟨S1, .f32⟩
  | .hbm, ⟨23, _⟩ => ⟨S2047, .f32⟩
  | .hbm, ⟨24, _⟩ => ⟨S2047, .f32⟩
  | .hbm, ⟨25, _⟩ => ⟨S2047, .f32⟩
  | .hbm, ⟨26, _⟩ => ⟨S1, .f32⟩
  | .hbm, ⟨27, _⟩ => ⟨S2048, .f32⟩
  | .hbm, ⟨28, _⟩ => ⟨S1x2048x1, .f32⟩
  | .hbm, ⟨29, _⟩ => ⟨S8x2048x1, .f32⟩
  | .hbm, ⟨30, _⟩ => ⟨S8x2048x8, .f32⟩
  | .hbm, ⟨31, _⟩ => ⟨S_, .f32⟩
  | .hbm, ⟨32, _⟩ => ⟨S8x1x8, .f32⟩
  | .hbm, ⟨33, _⟩ => ⟨S8x2049x8, .f32⟩
  | .hbm, ⟨34, _⟩ => ⟨S8x2048x8, .f32⟩
  | .hbm, ⟨35, _⟩ => ⟨S8x2048x8, .f32⟩
  | .hbm, ⟨36, _⟩ => ⟨S8x2048x8, .f32⟩
  | .hbm, ⟨37, _⟩ => ⟨S8x128x16x8, .f32⟩
  | .hbm, ⟨38, _⟩ => ⟨S8x16x8x128, .f32⟩
  | .hbm, ⟨39, _⟩ => ⟨S584x256, .f32⟩
  | .hbm, ⟨40, _⟩ => ⟨S4096x256, .f32⟩
  | .hbm, ⟨41, _⟩ => ⟨S8x8x8x8x256, .f32⟩
  | .hbm, ⟨42, _⟩ => ⟨S8x8x8x8x256, .f32⟩
  | .hbm, ⟨43, _⟩ => ⟨S4096x256, .f32⟩
  | .hbm, ⟨44, _⟩ => ⟨S4680x256, .f32⟩
  | .hbm, ⟨45, _⟩ => ⟨S1x256, .f32⟩
  | .hbm, ⟨46, _⟩ => ⟨S1x1, .f32⟩
  | .hbm, ⟨47, _⟩ => ⟨S8x1x1, .f32⟩
  | .hbm, ⟨48, _⟩ => ⟨S8x1, .f32⟩
  | .local _ .vmem, ⟨0, _⟩ => ⟨S1x16x8x128, .f32⟩
  | .local _ .vmem, ⟨1, _⟩ => ⟨S1x16x8x128, .f32⟩
  | .local _ .vmem, ⟨2, _⟩ => ⟨S4680x256, .f32⟩
  | .local _ .vmem, ⟨3, _⟩ => ⟨S1x256, .f32⟩
  | .local _ .vmem, ⟨4, _⟩ => ⟨S256x1, .f32⟩
  | .local _ .vmem, ⟨5, _⟩ => ⟨S1x1, .f32⟩
  | .local _ .vmem, ⟨6, _⟩ => ⟨S1x1x1, .f32⟩
  | .local _ .vmem, ⟨7, _⟩ => ⟨S1x1x1, .f32⟩
  | _, _ => ⟨S8x2048x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c1_i32 : BitVec 32 := 1#32
  let c15_i32 : BitVec 32 := 15#32
  let v262 : BitVec 32 := Scalar.addi c1_i32 c15_i32
  let c1_i32_5 : BitVec 32 := 1#32
  ⟨c1_i32, v262, c1_i32_5⟩
def k0_off1 (k0_t1 : Fin k0_t1_loop.trips) : Fin 4 → Nat :=
  let c0_197 : Index := 0#32
  let c1_i32 : BitVec 32 := 1#32
  let c1_i32_5 : BitVec 32 := 1#32
  let arg7 : BitVec 32 := Scf.iv c1_i32 c1_i32_5 k0_t1
  let v3291 : Index := Scalar.indexCast arg7
  let c0_198 : Index := 0#32
  let c0_199 : Index := 0#32
  ![0, v3291.toNat, 0, 0]
@[reducible] def k0_t2_loop : Scf.Loop 32 :=
  let c0_i32 : BitVec 32 := 0#32
  let c7_i32 : BitVec 32 := 7#32
  let v265 : BitVec 32 := Scalar.addi c0_i32 c7_i32
  let c1_i32_7 : BitVec 32 := 1#32
  ⟨c0_i32, v265, c1_i32_7⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4680x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "third" => some ((1 / 3 : ℝ) : EReal)
  | _ => none
-- ==== ReferenceIdeal.lean ====
abbrev S8x2048x7 : Shape := ⟨3, ![8, 2048, 7]⟩
abbrev S4680x256 : Shape := ⟨2, ![4680, 256]⟩
abbrev S256 : Shape := ⟨1, ![256]⟩
abbrev S256x1 : Shape := ⟨2, ![256, 1]⟩
abbrev S1 : Shape := ⟨1, ![1]⟩
abbrev S_ : Shape := ⟨0, ![]⟩
abbrev S2047 : Shape := ⟨1, ![2047]⟩
abbrev S2048 : Shape := ⟨1, ![2048]⟩
abbrev S1x2048x1 : Shape := ⟨3, ![1, 2048, 1]⟩
abbrev S8x2048x1 : Shape := ⟨3, ![8, 2048, 1]⟩
abbrev S8x2048x8 : Shape := ⟨3, ![8, 2048, 8]⟩
abbrev S8x1x8 : Shape := ⟨3, ![8, 1, 8]⟩
abbrev S8x2049x8 : Shape := ⟨3, ![8, 2049, 8]⟩
abbrev S8x128x16x8 : Shape := ⟨4, ![8, 128, 16, 8]⟩
abbrev S8x128x16x8x1 : Shape := ⟨5, ![8, 128, 16, 8, 1]⟩
abbrev S8x128x16x1x8 : Shape := ⟨5, ![8, 128, 16, 1, 8]⟩
abbrev S8x128x16x8x8 : Shape := ⟨5, ![8, 128, 16, 8, 8]⟩
abbrev S8x128x16x8x8x1 : Shape := ⟨6, ![8, 128, 16, 8, 8, 1]⟩
abbrev S8x128x16x1x1x8 : Shape := ⟨6, ![8, 128, 16, 1, 1, 8]⟩
abbrev S8x128x16x8x8x8 : Shape := ⟨6, ![8, 128, 16, 8, 8, 8]⟩
abbrev S8x128x16x8x8x8x1 : Shape := ⟨7, ![8, 128, 16, 8, 8, 8, 1]⟩
abbrev S8x128x16x1x1x1x8 : Shape := ⟨7, ![8, 128, 16, 1, 1, 1, 8]⟩
abbrev S8x128x16x8x8x8x8 : Shape := ⟨7, ![8, 128, 16, 8, 8, 8, 8]⟩
abbrev S8x128x16x8x1x1 : Shape := ⟨6, ![8, 128, 16, 8, 1, 1]⟩
abbrev S8x128x16x1x8x8 : Shape := ⟨6, ![8, 128, 16, 1, 8, 8]⟩
abbrev S8x128x16x8x1x1x1 : Shape := ⟨7, ![8, 128, 16, 8, 1, 1, 1]⟩
abbrev S8x128x16x1x8x8x8 : Shape := ⟨7, ![8, 128, 16, 1, 8, 8, 8]⟩
abbrev S8x128x16x8x8x1x1 : Shape := ⟨7, ![8, 128, 16, 8, 8, 1, 1]⟩
abbrev S8x128x16x1x1x8x8 : Shape := ⟨7, ![8, 128, 16, 1, 1, 8, 8]⟩
abbrev S8x128x8 : Shape := ⟨3, ![8, 128, 8]⟩
abbrev S8x128x8x8 : Shape := ⟨4, ![8, 128, 8, 8]⟩
abbrev S8x128x8x8x8 : Shape := ⟨5, ![8, 128, 8, 8, 8]⟩
abbrev S8x128x8x8x8x8 : Shape := ⟨6, ![8, 128, 8, 8, 8, 8]⟩
abbrev S8x128x8x1 : Shape := ⟨4, ![8, 128, 8, 1]⟩
abbrev S8x128x1x8 : Shape := ⟨4, ![8, 128, 1, 8]⟩
abbrev S8x128x8x1x1 : Shape := ⟨5, ![8, 128, 8, 1, 1]⟩
abbrev S8x128x1x8x8 : Shape := ⟨5, ![8, 128, 1, 8, 8]⟩
abbrev S8x128x8x8x1 : Shape := ⟨5, ![8, 128, 8, 8, 1]⟩
abbrev S8x128x1x1x8 : Shape := ⟨5, ![8, 128, 1, 1, 8]⟩
abbrev S8x128x8x1x1x1 : Shape := ⟨6, ![8, 128, 8, 1, 1, 1]⟩
abbrev S8x128x1x8x8x8 : Shape := ⟨6, ![8, 128, 1, 8, 8, 8]⟩
abbrev S8x128x8x8x1x1 : Shape := ⟨6, ![8, 128, 8, 8, 1, 1]⟩
abbrev S8x128x1x1x8x8 : Shape := ⟨6, ![8, 128, 1, 1, 8, 8]⟩
abbrev S8x128x8x8x8x1 : Shape := ⟨6, ![8, 128, 8, 8, 8, 1]⟩
abbrev S8x128x1x1x1x8 : Shape := ⟨6, ![8, 128, 1, 1, 1, 8]⟩
abbrev S8x256x8 : Shape := ⟨3, ![8, 256, 8]⟩
abbrev S8x256x8x8 : Shape := ⟨4, ![8, 256, 8, 8]⟩
abbrev S8x256x8x8x8 : Shape := ⟨5, ![8, 256, 8, 8, 8]⟩
abbrev S8x256x8x8x8x8 : Shape := ⟨6, ![8, 256, 8, 8, 8, 8]⟩
abbrev S8x128x64 : Shape := ⟨3, ![8, 128, 64]⟩
abbrev S8x128x512 : Shape := ⟨3, ![8, 128, 512]⟩
abbrev S8x128x4096 : Shape := ⟨3, ![8, 128, 4096]⟩
abbrev S8x128x4680 : Shape := ⟨3, ![8, 128, 4680]⟩
abbrev S8x4680 : Shape := ⟨2, ![8, 4680]⟩
abbrev S8x256 : Shape := ⟨2, ![8, 256]⟩
abbrev S1x256 : Shape := ⟨2, ![1, 256]⟩
abbrev S8x1 : Shape := ⟨2, ![8, 1]⟩
abbrev S1x1 : Shape := ⟨2, ![1, 1]⟩

abbrev nBuf : Space → Nat
  | .hbm => 579
  | .vmem => 0
  | .smem => 0
  | _ => 0

abbrev hbmTy0_0 (i : Nat) : BufTy := match i % 128 with
  | 0 => ⟨S8x2048x7, .f32⟩
  | 1 => ⟨S4680x256, .f32⟩
  | 2 => ⟨S256, .f32⟩
  | 3 => ⟨S256x1, .f32⟩
  | 4 => ⟨S1, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S2047, .f32⟩
  | 13 => ⟨S_, .f32⟩
  | 14 => ⟨S2047, .f32⟩
  | 15 => ⟨S2047, .f32⟩
  | 16 => ⟨S1, .f32⟩
  | 17 => ⟨S_, .f32⟩
  | 18 => ⟨S2047, .f32⟩
  | 19 => ⟨S2047, .f32⟩
  | 20 => ⟨S2047, .f32⟩
  | 21 => ⟨S2047, .f32⟩
  | 22 => ⟨S1, .f32⟩
  | 23 => ⟨S2047, .f32⟩
  | 24 => ⟨S2047, .f32⟩
  | 25 => ⟨S2047, .f32⟩
  | 26 => ⟨S1, .f32⟩
  | 27 => ⟨S2048, .f32⟩
  | 28 => ⟨S1x2048x1, .f32⟩
  | 29 => ⟨S8x2048x1, .f32⟩
  | 30 => ⟨S8x2048x8, .f32⟩
  | 31 => ⟨S_, .f32⟩
  | 32 => ⟨S8x1x8, .f32⟩
  | 33 => ⟨S8x2049x8, .f32⟩
  | 34 => ⟨S8x2048x8, .f32⟩
  | 35 => ⟨S8x2048x8, .f32⟩
  | 36 => ⟨S8x2048x8, .f32⟩
  | 37 => ⟨S8x128x16x8, .f32⟩
  | 38 => ⟨S8x128x16x8x1, .f32⟩
  | 39 => ⟨S8x128x16x1x8, .f32⟩
  | 40 => ⟨S8x128x16x8x8, .f32⟩
  | 41 => ⟨S8x128x16x8x8, .f32⟩
  | 42 => ⟨S8x128x16x8x8, .f32⟩
  | 43 => ⟨S_, .f32⟩
  | 44 => ⟨S8x128x16x8x8, .f32⟩
  | 45 => ⟨S8x128x16x8x8, .f32⟩
  | 46 => ⟨S8x128x16x8x1, .f32⟩
  | 47 => ⟨S8x128x16x1x8, .f32⟩
  | 48 => ⟨S8x128x16x8x8, .f32⟩
  | 49 => ⟨S8x128x16x8x8, .f32⟩
  | 50 => ⟨S8x128x16x8x8, .f32⟩
  | 51 => ⟨S8x128x16x8x8x1, .f32⟩
  | 52 => ⟨S8x128x16x1x1x8, .f32⟩
  | 53 => ⟨S8x128x16x8x8x8, .f32⟩
  | 54 => ⟨S8x128x16x8x8x8, .f32⟩
  | 55 => ⟨S8x128x16x8x8x8, .f32⟩
  | 56 => ⟨S_, .f32⟩
  | 57 => ⟨S8x128x16x8x8x8, .f32⟩
  | 58 => ⟨S8x128x16x8x8x8, .f32⟩
  | 59 => ⟨S8x128x16x8x1, .f32⟩
  | 60 => ⟨S8x128x16x1x8, .f32⟩
  | 61 => ⟨S8x128x16x8x8, .f32⟩
  | 62 => ⟨S8x128x16x8x8, .f32⟩
  | 63 => ⟨S8x128x16x8x8, .f32⟩
  | 64 => ⟨S8x128x16x8x8x1, .f32⟩
  | 65 => ⟨S8x128x16x1x1x8, .f32⟩
  | 66 => ⟨S8x128x16x8x8x8, .f32⟩
  | 67 => ⟨S8x128x16x8x8x8, .f32⟩
  | 68 => ⟨S8x128x16x8x8x8, .f32⟩
  | 69 => ⟨S8x128x16x8x8x8x1, .f32⟩
  | 70 => ⟨S8x128x16x1x1x1x8, .f32⟩
  | 71 => ⟨S8x128x16x8x8x8x8, .f32⟩
  | 72 => ⟨S8x128x16x8x8x8x8, .f32⟩
  | 73 => ⟨S8x128x16x8x8x8x8, .f32⟩
  | 74 => ⟨S_, .f32⟩
  | 75 => ⟨S8x128x16x8x8x8x8, .f32⟩
  | 76 => ⟨S8x128x16x8x8x8x8, .f32⟩
  | 77 => ⟨S_, .f32⟩
  | 78 => ⟨S_, .f32⟩
  | 79 => ⟨S8x128x16x8, .f32⟩
  | 80 => ⟨S8x128x16x8, .f32⟩
  | 81 => ⟨S8x128x16x8x1, .f32⟩
  | 82 => ⟨S8x128x16x1x8, .f32⟩
  | 83 => ⟨S8x128x16x8x8, .f32⟩
  | 84 => ⟨S8x128x16x8x8, .f32⟩
  | 85 => ⟨S8x128x16x8x8, .f32⟩
  | 86 => ⟨S8x128x16x8x8, .f32⟩
  | 87 => ⟨S_, .f32⟩
  | 88 => ⟨S_, .f32⟩
  | 89 => ⟨S8x128x16x8x8, .f32⟩
  | 90 => ⟨S8x128x16x8x8, .f32⟩
  | 91 => ⟨S8x128x16x8x1x1, .f32⟩
  | 92 => ⟨S8x128x16x1x8x8, .f32⟩
  | 93 => ⟨S8x128x16x8x8x8, .f32⟩
  | 94 => ⟨S8x128x16x8x8x8, .f32⟩
  | 95 => ⟨S8x128x16x8x8x8, .f32⟩
  | 96 => ⟨S8x128x16x8x8x8, .f32⟩
  | 97 => ⟨S8x128x16x8x8x1, .f32⟩
  | 98 => ⟨S8x128x16x1x1x8, .f32⟩
  | 99 => ⟨S8x128x16x8x8x8, .f32⟩
  | 100 => ⟨S8x128x16x8x8x8, .f32⟩
  | 101 => ⟨S8x128x16x8x8x8, .f32⟩
  | 102 => ⟨S8x128x16x8x8x8, .f32⟩
  | 103 => ⟨S_, .f32⟩
  | 104 => ⟨S_, .f32⟩
  | 105 => ⟨S8x128x16x8x8x8, .f32⟩
  | 106 => ⟨S8x128x16x8x8x8, .f32⟩
  | 107 => ⟨S8x128x16x8x1x1x1, .f32⟩
  | 108 => ⟨S8x128x16x1x8x8x8, .f32⟩
  | 109 => ⟨S8x128x16x8x8x8x8, .f32⟩
  | 110 => ⟨S8x128x16x8x8x8x8, .f32⟩
  | 111 => ⟨S8x128x16x8x8x8x8, .f32⟩
  | 112 => ⟨S8x128x16x8x8x8x8, .f32⟩
  | 113 => ⟨S8x128x16x8x8x1x1, .f32⟩
  | 114 => ⟨S8x128x16x1x1x8x8, .f32⟩
  | 115 => ⟨S8x128x16x8x8x8x8, .f32⟩
  | 116 => ⟨S8x128x16x8x8x8x8, .f32⟩
  | 117 => ⟨S8x128x16x8x8x8x8, .f32⟩
  | 118 => ⟨S8x128x16x8x8x8x8, .f32⟩
  | 119 => ⟨S8x128x16x8x8x8x1, .f32⟩
  | 120 => ⟨S8x128x16x1x1x1x8, .f32⟩
  | 121 => ⟨S8x128x16x8x8x8x8, .f32⟩
  | 122 => ⟨S8x128x16x8x8x8x8, .f32⟩
  | 123 => ⟨S8x128x16x8x8x8x8, .f32⟩
  | 124 => ⟨S8x128x16x8x8x8x8, .f32⟩
  | 125 => ⟨S_, .f32⟩
  | 126 => ⟨S8x128x8, .f32⟩
  | 127 => ⟨S_, .f32⟩
  | _ => ⟨S8x2048x7, .f32⟩

abbrev hbmTy0_1 (i : Nat) : BufTy := match i % 128 with
  | 0 => ⟨S8x128x8x8, .f32⟩
  | 1 => ⟨S_, .f32⟩
  | 2 => ⟨S8x128x8x8x8, .f32⟩
  | 3 => ⟨S_, .f32⟩
  | 4 => ⟨S8x128x8x8x8x8, .f32⟩
  | 5 => ⟨S8x128x8x1, .f32⟩
  | 6 => ⟨S8x128x1x8, .f32⟩
  | 7 => ⟨S8x128x8x8, .f32⟩
  | 8 => ⟨S8x128x8x8, .f32⟩
  | 9 => ⟨S8x128x8x8, .f32⟩
  | 10 => ⟨S8x128x8x1x1, .f32⟩
  | 11 => ⟨S8x128x1x8x8, .f32⟩
  | 12 => ⟨S8x128x8x8x8, .f32⟩
  | 13 => ⟨S8x128x8x8x8, .f32⟩
  | 14 => ⟨S8x128x8x8x8, .f32⟩
  | 15 => ⟨S8x128x8x8x1, .f32⟩
  | 16 => ⟨S8x128x1x1x8, .f32⟩
  | 17 => ⟨S8x128x8x8x8, .f32⟩
  | 18 => ⟨S8x128x8x8x8, .f32⟩
  | 19 => ⟨S8x128x8x8x8, .f32⟩
  | 20 => ⟨S8x128x8x8x8, .f32⟩
  | 21 => ⟨S8x128x8x1x1x1, .f32⟩
  | 22 => ⟨S8x128x1x8x8x8, .f32⟩
  | 23 => ⟨S8x128x8x8x8x8, .f32⟩
  | 24 => ⟨S8x128x8x8x8x8, .f32⟩
  | 25 => ⟨S8x128x8x8x8x8, .f32⟩
  | 26 => ⟨S8x128x8x8x1x1, .f32⟩
  | 27 => ⟨S8x128x1x1x8x8, .f32⟩
  | 28 => ⟨S8x128x8x8x8x8, .f32⟩
  | 29 => ⟨S8x128x8x8x8x8, .f32⟩
  | 30 => ⟨S8x128x8x8x8x8, .f32⟩
  | 31 => ⟨S8x128x8x8x8x8, .f32⟩
  | 32 => ⟨S8x128x8x8x8x1, .f32⟩
  | 33 => ⟨S8x128x1x1x1x8, .f32⟩
  | 34 => ⟨S8x128x8x8x8x8, .f32⟩
  | 35 => ⟨S8x128x8x8x8x8, .f32⟩
  | 36 => ⟨S8x128x8x8x8x8, .f32⟩
  | 37 => ⟨S8x128x8x8x8x8, .f32⟩
  | 38 => ⟨S8x128x8x1x1, .f32⟩
  | 39 => ⟨S8x128x1x8x8, .f32⟩
  | 40 => ⟨S8x128x8x8x8, .f32⟩
  | 41 => ⟨S8x128x8x8x8, .f32⟩
  | 42 => ⟨S8x128x8x8x8, .f32⟩
  | 43 => ⟨S8x128x8x1x1x1, .f32⟩
  | 44 => ⟨S8x128x1x8x8x8, .f32⟩
  | 45 => ⟨S8x128x8x8x8x8, .f32⟩
  | 46 => ⟨S8x128x8x8x8x8, .f32⟩
  | 47 => ⟨S8x128x8x8x8x8, .f32⟩
  | 48 => ⟨S8x128x8x8x1x1, .f32⟩
  | 49 => ⟨S8x128x1x1x8x8, .f32⟩
  | 50 => ⟨S8x128x8x8x8x8, .f32⟩
  | 51 => ⟨S8x128x8x8x8x8, .f32⟩
  | 52 => ⟨S8x128x8x8x8x8, .f32⟩
  | 53 => ⟨S8x128x8x8x8x8, .f32⟩
  | 54 => ⟨S8x128x8x1x1x1, .f32⟩
  | 55 => ⟨S8x128x1x8x8x8, .f32⟩
  | 56 => ⟨S8x128x8x8x8x8, .f32⟩
  | 57 => ⟨S8x128x8x8x8x8, .f32⟩
  | 58 => ⟨S8x128x8x8x8x8, .f32⟩
  | 59 => ⟨S_, .f32⟩
  | 60 => ⟨S8x128x8x8, .f32⟩
  | 61 => ⟨S8x128x8x8, .f32⟩
  | 62 => ⟨S8x128x8x8, .f32⟩
  | 63 => ⟨S_, .f32⟩
  | 64 => ⟨S8x128x8x8x8, .f32⟩
  | 65 => ⟨S8x128x8x8x8, .f32⟩
  | 66 => ⟨S8x128x8x8x8, .f32⟩
  | 67 => ⟨S_, .f32⟩
  | 68 => ⟨S8x128x8x8x8, .f32⟩
  | 69 => ⟨S8x128x8x8x8, .f32⟩
  | 70 => ⟨S8x128x8x8x8, .f32⟩
  | 71 => ⟨S_, .f32⟩
  | 72 => ⟨S8x128x8x8x8x8, .f32⟩
  | 73 => ⟨S8x128x8x8x8x8, .f32⟩
  | 74 => ⟨S8x128x8x8x8x8, .f32⟩
  | 75 => ⟨S_, .f32⟩
  | 76 => ⟨S8x128x8x8x8x8, .f32⟩
  | 77 => ⟨S8x128x8x8x8x8, .f32⟩
  | 78 => ⟨S8x128x8x8x8x8, .f32⟩
  | 79 => ⟨S_, .f32⟩
  | 80 => ⟨S8x128x8x8x8x8, .f32⟩
  | 81 => ⟨S8x128x8x8x8x8, .f32⟩
  | 82 => ⟨S8x128x8x8x8x8, .f32⟩
  | 83 => ⟨S_, .i32⟩
  | 84 => ⟨S_, .i32⟩
  | 85 => ⟨S_, .i32⟩
  | 86 => ⟨S_, .i32⟩
  | 87 => ⟨S8x128x8, .f32⟩
  | 88 => ⟨S8x128x8x8, .f32⟩
  | 89 => ⟨S8x128x8x8x8, .f32⟩
  | 90 => ⟨S8x128x8x8x8x8, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .f32⟩
  | 98 => ⟨S8x128x8, .f32⟩
  | 99 => ⟨S8x256x8, .f32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S8x128x8, .f32⟩
  | 110 => ⟨S_, .f32⟩
  | 111 => ⟨S8x128x8x8, .f32⟩
  | 112 => ⟨S8x256x8x8, .f32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S8x128x8x8, .f32⟩
  | 124 => ⟨S_, .f32⟩
  | 125 => ⟨S8x128x8x8x8, .f32⟩
  | 126 => ⟨S8x256x8x8x8, .f32⟩
  | 127 => ⟨S_, .i32⟩
  | _ => ⟨S8x2048x7, .f32⟩

abbrev hbmTy0_2 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S8x128x8x8x8, .f32⟩
  | 11 => ⟨S_, .f32⟩
  | 12 => ⟨S8x128x8x8x8x8, .f32⟩
  | 13 => ⟨S8x256x8x8x8x8, .f32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S8x128x8x8x8x8, .f32⟩
  | 27 => ⟨S8x128x8x1, .f32⟩
  | 28 => ⟨S8x128x1x8, .f32⟩
  | 29 => ⟨S8x128x8x8, .f32⟩
  | 30 => ⟨S8x128x8x8, .f32⟩
  | 31 => ⟨S8x128x8x8, .f32⟩
  | 32 => ⟨S8x128x8x1x1, .f32⟩
  | 33 => ⟨S8x128x1x8x8, .f32⟩
  | 34 => ⟨S8x128x8x8x8, .f32⟩
  | 35 => ⟨S8x128x8x8x8, .f32⟩
  | 36 => ⟨S8x128x8x8x8, .f32⟩
  | 37 => ⟨S8x128x8x8x1, .f32⟩
  | 38 => ⟨S8x128x1x1x8, .f32⟩
  | 39 => ⟨S8x128x8x8x8, .f32⟩
  | 40 => ⟨S8x128x8x8x8, .f32⟩
  | 41 => ⟨S8x128x8x8x8, .f32⟩
  | 42 => ⟨S8x128x8x8x8, .f32⟩
  | 43 => ⟨S8x128x8x1x1x1, .f32⟩
  | 44 => ⟨S8x128x1x8x8x8, .f32⟩
  | 45 => ⟨S8x128x8x8x8x8, .f32⟩
  | 46 => ⟨S8x128x8x8x8x8, .f32⟩
  | 47 => ⟨S8x128x8x8x8x8, .f32⟩
  | 48 => ⟨S8x128x8x8x1x1, .f32⟩
  | 49 => ⟨S8x128x1x1x8x8, .f32⟩
  | 50 => ⟨S8x128x8x8x8x8, .f32⟩
  | 51 => ⟨S8x128x8x8x8x8, .f32⟩
  | 52 => ⟨S8x128x8x8x8x8, .f32⟩
  | 53 => ⟨S8x128x8x8x8x8, .f32⟩
  | 54 => ⟨S8x128x8x8x8x1, .f32⟩
  | 55 => ⟨S8x128x1x1x1x8, .f32⟩
  | 56 => ⟨S8x128x8x8x8x8, .f32⟩
  | 57 => ⟨S8x128x8x8x8x8, .f32⟩
  | 58 => ⟨S8x128x8x8x8x8, .f32⟩
  | 59 => ⟨S8x128x8x8x8x8, .f32⟩
  | 60 => ⟨S8x128x8x1x1, .f32⟩
  | 61 => ⟨S8x128x1x8x8, .f32⟩
  | 62 => ⟨S8x128x8x8x8, .f32⟩
  | 63 => ⟨S8x128x8x8x8, .f32⟩
  | 64 => ⟨S8x128x8x8x8, .f32⟩
  | 65 => ⟨S8x128x8x1x1x1, .f32⟩
  | 66 => ⟨S8x128x1x8x8x8, .f32⟩
  | 67 => ⟨S8x128x8x8x8x8, .f32⟩
  | 68 => ⟨S8x128x8x8x8x8, .f32⟩
  | 69 => ⟨S8x128x8x8x8x8, .f32⟩
  | 70 => ⟨S8x128x8x8x1x1, .f32⟩
  | 71 => ⟨S8x128x1x1x8x8, .f32⟩
  | 72 => ⟨S8x128x8x8x8x8, .f32⟩
  | 73 => ⟨S8x128x8x8x8x8, .f32⟩
  | 74 => ⟨S8x128x8x8x8x8, .f32⟩
  | 75 => ⟨S8x128x8x8x8x8, .f32⟩
  | 76 => ⟨S8x128x8x1x1x1, .f32⟩
  | 77 => ⟨S8x128x1x8x8x8, .f32⟩
  | 78 => ⟨S8x128x8x8x8x8, .f32⟩
  | 79 => ⟨S8x128x8x8x8x8, .f32⟩
  | 80 => ⟨S8x128x8x8x8x8, .f32⟩
  | 81 => ⟨S_, .f32⟩
  | 82 => ⟨S8x128x8x8, .f32⟩
  | 83 => ⟨S8x128x8x8, .f32⟩
  | 84 => ⟨S8x128x8x8, .f32⟩
  | 85 => ⟨S_, .f32⟩
  | 86 => ⟨S8x128x8x8x8, .f32⟩
  | 87 => ⟨S8x128x8x8x8, .f32⟩
  | 88 => ⟨S8x128x8x8x8, .f32⟩
  | 89 => ⟨S_, .f32⟩
  | 90 => ⟨S8x128x8x8x8, .f32⟩
  | 91 => ⟨S8x128x8x8x8, .f32⟩
  | 92 => ⟨S8x128x8x8x8, .f32⟩
  | 93 => ⟨S_, .f32⟩
  | 94 => ⟨S8x128x8x8x8x8, .f32⟩
  | 95 => ⟨S8x128x8x8x8x8, .f32⟩
  | 96 => ⟨S8x128x8x8x8x8, .f32⟩
  | 97 => ⟨S_, .f32⟩
  | 98 => ⟨S8x128x8x8x8x8, .f32⟩
  | 99 => ⟨S8x128x8x8x8x8, .f32⟩
  | 100 => ⟨S8x128x8x8x8x8, .f32⟩
  | 101 => ⟨S_, .f32⟩
  | 102 => ⟨S8x128x8x8x8x8, .f32⟩
  | 103 => ⟨S8x128x8x8x8x8, .f32⟩
  | 104 => ⟨S8x128x8x8x8x8, .f32⟩
  | 105 => ⟨S8x128x8x1, .f32⟩
  | 106 => ⟨S8x128x1x8, .f32⟩
  | 107 => ⟨S8x128x8x8, .f32⟩
  | 108 => ⟨S8x128x8x8, .f32⟩
  | 109 => ⟨S8x128x8x8, .f32⟩
  | 110 => ⟨S8x128x8x1x1, .f32⟩
  | 111 => ⟨S8x128x1x8x8, .f32⟩
  | 112 => ⟨S8x128x8x8x8, .f32⟩
  | 113 => ⟨S8x128x8x8x8, .f32⟩
  | 114 => ⟨S8x128x8x8x8, .f32⟩
  | 115 => ⟨S8x128x8x8x1, .f32⟩
  | 116 => ⟨S8x128x1x1x8, .f32⟩
  | 117 => ⟨S8x128x8x8x8, .f32⟩
  | 118 => ⟨S8x128x8x8x8, .f32⟩
  | 119 => ⟨S8x128x8x8x8, .f32⟩
  | 120 => ⟨S8x128x8x8x8, .f32⟩
  | 121 => ⟨S8x128x8x1x1x1, .f32⟩
  | 122 => ⟨S8x128x1x8x8x8, .f32⟩
  | 123 => ⟨S8x128x8x8x8x8, .f32⟩
  | 124 => ⟨S8x128x8x8x8x8, .f32⟩
  | 125 => ⟨S8x128x8x8x8x8, .f32⟩
  | 126 => ⟨S8x128x8x8x1x1, .f32⟩
  | 127 => ⟨S8x128x1x1x8x8, .f32⟩
  | _ => ⟨S8x2048x7, .f32⟩

abbrev hbmTy0_3 (i : Nat) : BufTy := match i % 128 with
  | 0 => ⟨S8x128x8x8x8x8, .f32⟩
  | 1 => ⟨S8x128x8x8x8x8, .f32⟩
  | 2 => ⟨S8x128x8x8x8x8, .f32⟩
  | 3 => ⟨S8x128x8x8x8x8, .f32⟩
  | 4 => ⟨S8x128x8x8x8x1, .f32⟩
  | 5 => ⟨S8x128x1x1x1x8, .f32⟩
  | 6 => ⟨S8x128x8x8x8x8, .f32⟩
  | 7 => ⟨S8x128x8x8x8x8, .f32⟩
  | 8 => ⟨S8x128x8x8x8x8, .f32⟩
  | 9 => ⟨S8x128x8x8x8x8, .f32⟩
  | 10 => ⟨S8x128x8x1x1, .f32⟩
  | 11 => ⟨S8x128x1x8x8, .f32⟩
  | 12 => ⟨S8x128x8x8x8, .f32⟩
  | 13 => ⟨S8x128x8x8x8, .f32⟩
  | 14 => ⟨S8x128x8x8x8, .f32⟩
  | 15 => ⟨S8x128x8x1x1x1, .f32⟩
  | 16 => ⟨S8x128x1x8x8x8, .f32⟩
  | 17 => ⟨S8x128x8x8x8x8, .f32⟩
  | 18 => ⟨S8x128x8x8x8x8, .f32⟩
  | 19 => ⟨S8x128x8x8x8x8, .f32⟩
  | 20 => ⟨S8x128x8x8x1x1, .f32⟩
  | 21 => ⟨S8x128x1x1x8x8, .f32⟩
  | 22 => ⟨S8x128x8x8x8x8, .f32⟩
  | 23 => ⟨S8x128x8x8x8x8, .f32⟩
  | 24 => ⟨S8x128x8x8x8x8, .f32⟩
  | 25 => ⟨S8x128x8x8x8x8, .f32⟩
  | 26 => ⟨S8x128x8x1x1x1, .f32⟩
  | 27 => ⟨S8x128x1x8x8x8, .f32⟩
  | 28 => ⟨S8x128x8x8x8x8, .f32⟩
  | 29 => ⟨S8x128x8x8x8x8, .f32⟩
  | 30 => ⟨S8x128x8x8x8x8, .f32⟩
  | 31 => ⟨S_, .f32⟩
  | 32 => ⟨S8x128x8x8, .f32⟩
  | 33 => ⟨S8x128x8x8, .f32⟩
  | 34 => ⟨S8x128x8x8, .f32⟩
  | 35 => ⟨S_, .f32⟩
  | 36 => ⟨S8x128x8x8x8, .f32⟩
  | 37 => ⟨S8x128x8x8x8, .f32⟩
  | 38 => ⟨S8x128x8x8x8, .f32⟩
  | 39 => ⟨S_, .f32⟩
  | 40 => ⟨S8x128x8x8x8, .f32⟩
  | 41 => ⟨S8x128x8x8x8, .f32⟩
  | 42 => ⟨S8x128x8x8x8, .f32⟩
  | 43 => ⟨S_, .f32⟩
  | 44 => ⟨S8x128x8x8x8x8, .f32⟩
  | 45 => ⟨S8x128x8x8x8x8, .f32⟩
  | 46 => ⟨S8x128x8x8x8x8, .f32⟩
  | 47 => ⟨S_, .f32⟩
  | 48 => ⟨S8x128x8x8x8x8, .f32⟩
  | 49 => ⟨S8x128x8x8x8x8, .f32⟩
  | 50 => ⟨S8x128x8x8x8x8, .f32⟩
  | 51 => ⟨S_, .f32⟩
  | 52 => ⟨S8x128x8x8x8x8, .f32⟩
  | 53 => ⟨S8x128x8x8x8x8, .f32⟩
  | 54 => ⟨S8x128x8x8x8x8, .f32⟩
  | 55 => ⟨S8x128x8, .f32⟩
  | 56 => ⟨S8x128x8x8, .f32⟩
  | 57 => ⟨S8x128x8x1, .f32⟩
  | 58 => ⟨S8x128x1x8, .f32⟩
  | 59 => ⟨S8x128x8x8, .f32⟩
  | 60 => ⟨S8x128x8x8, .f32⟩
  | 61 => ⟨S8x128x8x8, .f32⟩
  | 62 => ⟨S8x128x8x8, .f32⟩
  | 63 => ⟨S8x128x8x8x8, .f32⟩
  | 64 => ⟨S8x128x8x1x1, .f32⟩
  | 65 => ⟨S8x128x1x8x8, .f32⟩
  | 66 => ⟨S8x128x8x8x8, .f32⟩
  | 67 => ⟨S8x128x8x8x8, .f32⟩
  | 68 => ⟨S8x128x8x8x8, .f32⟩
  | 69 => ⟨S8x128x8x8x8, .f32⟩
  | 70 => ⟨S8x128x8x8x1, .f32⟩
  | 71 => ⟨S8x128x1x1x8, .f32⟩
  | 72 => ⟨S8x128x8x8x8, .f32⟩
  | 73 => ⟨S8x128x8x8x8, .f32⟩
  | 74 => ⟨S8x128x8x8x8, .f32⟩
  | 75 => ⟨S8x128x8x8x8, .f32⟩
  | 76 => ⟨S8x128x8x8x8x8, .f32⟩
  | 77 => ⟨S8x128x8x1x1x1, .f32⟩
  | 78 => ⟨S8x128x1x8x8x8, .f32⟩
  | 79 => ⟨S8x128x8x8x8x8, .f32⟩
  | 80 => ⟨S8x128x8x8x8x8, .f32⟩
  | 81 => ⟨S8x128x8x8x8x8, .f32⟩
  | 82 => ⟨S8x128x8x8x8x8, .f32⟩
  | 83 => ⟨S8x128x8x8x1x1, .f32⟩
  | 84 => ⟨S8x128x1x1x8x8, .f32⟩
  | 85 => ⟨S8x128x8x8x8x8, .f32⟩
  | 86 => ⟨S8x128x8x8x8x8, .f32⟩
  | 87 => ⟨S8x128x8x8x8x8, .f32⟩
  | 88 => ⟨S8x128x8x8x8x8, .f32⟩
  | 89 => ⟨S8x128x8x8x8x1, .f32⟩
  | 90 => ⟨S8x128x1x1x1x8, .f32⟩
  | 91 => ⟨S8x128x8x8x8x8, .f32⟩
  | 92 => ⟨S8x128x8x8x8x8, .f32⟩
  | 93 => ⟨S8x128x8x8x8x8, .f32⟩
  | 94 => ⟨S8x128x8x8x8x8, .f32⟩
  | 95 => ⟨S8x128x8x1, .f32⟩
  | 96 => ⟨S8x128x1x8, .f32⟩
  | 97 => ⟨S8x128x8x8, .f32⟩
  | 98 => ⟨S8x128x8x8, .f32⟩
  | 99 => ⟨S8x128x8x8, .f32⟩
  | 100 => ⟨S8x128x8x1x1, .f32⟩
  | 101 => ⟨S8x128x1x8x8, .f32⟩
  | 102 => ⟨S8x128x8x8x8, .f32⟩
  | 103 => ⟨S8x128x8x8x8, .f32⟩
  | 104 => ⟨S8x128x8x8x8, .f32⟩
  | 105 => ⟨S8x128x8x8x1, .f32⟩
  | 106 => ⟨S8x128x1x1x8, .f32⟩
  | 107 => ⟨S8x128x8x8x8, .f32⟩
  | 108 => ⟨S8x128x8x8x8, .f32⟩
  | 109 => ⟨S8x128x8x8x8, .f32⟩
  | 110 => ⟨S8x128x8x8x8, .f32⟩
  | 111 => ⟨S8x128x8x1x1x1, .f32⟩
  | 112 => ⟨S8x128x1x8x8x8, .f32⟩
  | 113 => ⟨S8x128x8x8x8x8, .f32⟩
  | 114 => ⟨S8x128x8x8x8x8, .f32⟩
  | 115 => ⟨S8x128x8x8x8x8, .f32⟩
  | 116 => ⟨S8x128x8x8x1x1, .f32⟩
  | 117 => ⟨S8x128x1x1x8x8, .f32⟩
  | 118 => ⟨S8x128x8x8x8x8, .f32⟩
  | 119 => ⟨S8x128x8x8x8x8, .f32⟩
  | 120 => ⟨S8x128x8x8x8x8, .f32⟩
  | 121 => ⟨S8x128x8x8x8x8, .f32⟩
  | 122 => ⟨S8x128x8x8x8x1, .f32⟩
  | 123 => ⟨S8x128x1x1x1x8, .f32⟩
  | 124 => ⟨S8x128x8x8x8x8, .f32⟩
  | 125 => ⟨S8x128x8x8x8x8, .f32⟩
  | 126 => ⟨S8x128x8x8x8x8, .f32⟩
  | 127 => ⟨S8x128x8x8x8x8, .f32⟩
  | _ => ⟨S8x2048x7, .f32⟩

abbrev hbmTy0_4 (i : Nat) : BufTy := match i % 128 with
  | 0 => ⟨S8x128x8x1x1, .f32⟩
  | 1 => ⟨S8x128x1x8x8, .f32⟩
  | 2 => ⟨S8x128x8x8x8, .f32⟩
  | 3 => ⟨S8x128x8x8x8, .f32⟩
  | 4 => ⟨S8x128x8x8x8, .f32⟩
  | 5 => ⟨S8x128x8x1x1x1, .f32⟩
  | 6 => ⟨S8x128x1x8x8x8, .f32⟩
  | 7 => ⟨S8x128x8x8x8x8, .f32⟩
  | 8 => ⟨S8x128x8x8x8x8, .f32⟩
  | 9 => ⟨S8x128x8x8x8x8, .f32⟩
  | 10 => ⟨S8x128x8x8x1x1, .f32⟩
  | 11 => ⟨S8x128x1x1x8x8, .f32⟩
  | 12 => ⟨S8x128x8x8x8x8, .f32⟩
  | 13 => ⟨S8x128x8x8x8x8, .f32⟩
  | 14 => ⟨S8x128x8x8x8x8, .f32⟩
  | 15 => ⟨S8x128x8x8x8x8, .f32⟩
  | 16 => ⟨S8x128x8x1x1x1, .f32⟩
  | 17 => ⟨S8x128x1x8x8x8, .f32⟩
  | 18 => ⟨S8x128x8x8x8x8, .f32⟩
  | 19 => ⟨S8x128x8x8x8x8, .f32⟩
  | 20 => ⟨S8x128x8x8x8x8, .f32⟩
  | 21 => ⟨S_, .f32⟩
  | 22 => ⟨S8x128x8x8, .f32⟩
  | 23 => ⟨S8x128x8x8, .f32⟩
  | 24 => ⟨S8x128x8x8, .f32⟩
  | 25 => ⟨S_, .f32⟩
  | 26 => ⟨S8x128x8x8x8, .f32⟩
  | 27 => ⟨S8x128x8x8x8, .f32⟩
  | 28 => ⟨S8x128x8x8x8, .f32⟩
  | 29 => ⟨S_, .f32⟩
  | 30 => ⟨S8x128x8x8x8, .f32⟩
  | 31 => ⟨S8x128x8x8x8, .f32⟩
  | 32 => ⟨S8x128x8x8x8, .f32⟩
  | 33 => ⟨S_, .f32⟩
  | 34 => ⟨S8x128x8x8x8x8, .f32⟩
  | 35 => ⟨S8x128x8x8x8x8, .f32⟩
  | 36 => ⟨S8x128x8x8x8x8, .f32⟩
  | 37 => ⟨S_, .f32⟩
  | 38 => ⟨S8x128x8x8x8x8, .f32⟩
  | 39 => ⟨S8x128x8x8x8x8, .f32⟩
  | 40 => ⟨S8x128x8x8x8x8, .f32⟩
  | 41 => ⟨S_, .f32⟩
  | 42 => ⟨S8x128x8x8x8x8, .f32⟩
  | 43 => ⟨S8x128x8x8x8x8, .f32⟩
  | 44 => ⟨S8x128x8x8x8x8, .f32⟩
  | 45 => ⟨S_, .i32⟩
  | 46 => ⟨S_, .i32⟩
  | 47 => ⟨S8x128x64, .f32⟩
  | 48 => ⟨S8x128x512, .f32⟩
  | 49 => ⟨S8x128x4096, .f32⟩
  | 50 => ⟨S8x128x4680, .f32⟩
  | 51 => ⟨S_, .f32⟩
  | 52 => ⟨S8x4680, .f32⟩
  | 53 => ⟨S_, .f32⟩
  | 54 => ⟨S8x4680, .f32⟩
  | 55 => ⟨S8x4680, .f32⟩
  | 56 => ⟨S8x256, .f32⟩
  | 57 => ⟨S1x256, .f32⟩
  | 58 => ⟨S8x256, .f32⟩
  | 59 => ⟨S8x256, .f32⟩
  | 60 => ⟨S_, .f32⟩
  | 61 => ⟨S8x256, .f32⟩
  | 62 => ⟨S8x256, .f32⟩
  | 63 => ⟨S8x1, .f32⟩
  | 64 => ⟨S1x1, .f32⟩
  | 65 => ⟨S8x1, .f32⟩
  | 66 => ⟨S8x1, .f32⟩
  | _ => ⟨S8x2048x7, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x2048x7, .f32⟩

abbrev bufTy : (tb : Table) → Fin (tcTables nBuf tb) → BufTy
  | .hbm, ⟨i, _⟩ => hbmTy i
  | _, _ => ⟨S8x2048x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_4 : Ref sig .tc := ⟨.hbm, 74, rfl⟩
abbrev main_v41 : Ref sig .tc := ⟨.hbm, 75, rfl⟩
abbrev main_v42 : Ref sig .tc := ⟨.hbm, 76, rfl⟩
abbrev main_call2_call0_cst : Ref sig .tc := ⟨.hbm, 77, rfl⟩
abbrev main_call2_call0_v0 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call3_call0_cst : Ref sig .tc := ⟨.hbm, 87, rfl⟩
abbrev main_call3_call0_v0 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_call4_call0_cst : Ref sig .tc := ⟨.hbm, 103, rfl⟩
abbrev main_call4_call0_v0 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_5 : Ref sig .tc := ⟨.hbm, 125, rfl⟩
abbrev main_v85 : Ref sig .tc := ⟨.hbm, 126, rfl⟩
abbrev main_cst_6 : Ref sig .tc := ⟨.hbm, 127, rfl⟩
abbrev main_v86 : Ref sig .tc := ⟨.hbm, 128, rfl⟩
abbrev main_cst_7 : Ref sig .tc := ⟨.hbm, 129, rfl⟩
abbrev main_v87 : Ref sig .tc := ⟨.hbm, 130, rfl⟩
abbrev main_cst_8 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_9 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_10 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_11 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_12 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_13 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_14 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_c : Ref sig .tc := ⟨.hbm, 211, rfl⟩
abbrev main_c_15 : Ref sig .tc := ⟨.hbm, 212, rfl⟩
abbrev main_v161_0 : Ref sig .tc := ⟨.hbm, 213, rfl⟩
abbrev main_v161_1 : Ref sig .tc := ⟨.hbm, 214, rfl⟩
abbrev main_v161_2 : Ref sig .tc := ⟨.hbm, 215, rfl⟩
abbrev main_v161_3 : Ref sig .tc := ⟨.hbm, 216, rfl⟩
abbrev main_v161_4 : Ref sig .tc := ⟨.hbm, 217, rfl⟩
abbrev main_v161_5 : Ref sig .tc := ⟨.hbm, 218, rfl⟩
abbrev main_while0c_c_24 : Ref sig .tc := ⟨.hbm, 219, rfl⟩
abbrev main_while0c_v179 : Ref sig .tc := ⟨.hbm, 220, rfl⟩
abbrev main_while0b_c_24 : Ref sig .tc := ⟨.hbm, 221, rfl⟩
abbrev main_while0b_v179 : Ref sig .tc := ⟨.hbm, 222, rfl⟩
abbrev main_while0b_c_25 : Ref sig .tc := ⟨.hbm, 223, rfl⟩
abbrev main_while0b_v180 : Ref sig .tc := ⟨.hbm, 224, rfl⟩
abbrev main_while0b_cst_26 : Ref sig .tc := ⟨.hbm, 225, rfl⟩
abbrev main_while0b_v181 : Ref sig .tc := ⟨.hbm, 226, rfl⟩
abbrev main_while0b_v182 : Ref sig .tc := ⟨.hbm, 227, rfl⟩
abbrev main_while0b_c_27 : Ref sig .tc := ⟨.hbm, 228, rfl⟩
abbrev main_while0b_v183 : Ref sig .tc := ⟨.hbm, 229, rfl⟩
abbrev main_while0b_c_28 : Ref sig .tc := ⟨.hbm, 230, rfl⟩
abbrev main_while0b_v184 : Ref sig .tc := ⟨.hbm, 231, rfl⟩
abbrev main_while0b_c_29 : Ref sig .tc := ⟨.hbm, 232, rfl⟩
abbrev main_while0b_v185 : Ref sig .tc := ⟨.hbm, 233, rfl⟩
abbrev main_while0b_v186 : Ref sig .tc := ⟨.hbm, 234, rfl⟩
abbrev main_while0b_c_30 : Ref sig .tc := ⟨.hbm, 235, rfl⟩
abbrev main_while0b_c_31 : Ref sig .tc := ⟨.hbm, 236, rfl⟩
abbrev main_while0b_v187 : Ref sig .tc := ⟨.hbm, 237, rfl⟩
abbrev main_while0b_cst_32 : Ref sig .tc := ⟨.hbm, 238, rfl⟩
abbrev main_while0b_v188 : Ref sig .tc := ⟨.hbm, 239, rfl⟩
abbrev main_while0b_v189 : Ref sig .tc := ⟨.hbm, 240, rfl⟩
abbrev main_while0b_c_33 : Ref sig .tc := ⟨.hbm, 241, rfl⟩
abbrev main_while0b_v190 : Ref sig .tc := ⟨.hbm, 242, rfl⟩
abbrev main_while0b_c_34 : Ref sig .tc := ⟨.hbm, 243, rfl⟩
abbrev main_while0b_v191 : Ref sig .tc := ⟨.hbm, 244, rfl⟩
abbrev main_while0b_c_35 : Ref sig .tc := ⟨.hbm, 245, rfl⟩
abbrev main_while0b_v192 : Ref sig .tc := ⟨.hbm, 246, rfl⟩
abbrev main_while0b_v193 : Ref sig .tc := ⟨.hbm, 247, rfl⟩
abbrev main_while0b_c_36 : Ref sig .tc := ⟨.hbm, 248, rfl⟩
abbrev main_while0b_c_37 : Ref sig .tc := ⟨.hbm, 249, rfl⟩
abbrev main_while0b_c_38 : Ref sig .tc := ⟨.hbm, 250, rfl⟩
abbrev main_while0b_v194 : Ref sig .tc := ⟨.hbm, 251, rfl⟩
abbrev main_while0b_cst_39 : Ref sig .tc := ⟨.hbm, 252, rfl⟩
abbrev main_while0b_v195 : Ref sig .tc := ⟨.hbm, 253, rfl⟩
abbrev main_while0b_v196 : Ref sig .tc := ⟨.hbm, 254, rfl⟩
abbrev main_while0b_c_40 : Ref sig .tc := ⟨.hbm, 255, rfl⟩
abbrev main_while0b_v197 : Ref sig .tc := ⟨.hbm, 256, rfl⟩
abbrev main_while0b_c_41 : Ref sig .tc := ⟨.hbm, 257, rfl⟩
abbrev main_while0b_v198 : Ref sig .tc := ⟨.hbm, 258, rfl⟩
abbrev main_while0b_c_42 : Ref sig .tc := ⟨.hbm, 259, rfl⟩
abbrev main_while0b_v199 : Ref sig .tc := ⟨.hbm, 260, rfl⟩
abbrev main_while0b_v200 : Ref sig .tc := ⟨.hbm, 261, rfl⟩
abbrev main_while0b_c_43 : Ref sig .tc := ⟨.hbm, 262, rfl⟩
abbrev main_while0b_c_44 : Ref sig .tc := ⟨.hbm, 263, rfl⟩
abbrev main_while0b_c_45 : Ref sig .tc := ⟨.hbm, 264, rfl⟩
abbrev main_while0b_c_46 : Ref sig .tc := ⟨.hbm, 265, rfl⟩
abbrev main_while0b_v201 : Ref sig .tc := ⟨.hbm, 266, rfl⟩
abbrev main_while0b_cst_47 : Ref sig .tc := ⟨.hbm, 267, rfl⟩
abbrev main_while0b_v202 : Ref sig .tc := ⟨.hbm, 268, rfl⟩
abbrev main_while0b_v203 : Ref sig .tc := ⟨.hbm, 269, rfl⟩
abbrev main_while0b_c_48 : Ref sig .tc := ⟨.hbm, 270, rfl⟩
abbrev main_while0b_v204 : Ref sig .tc := ⟨.hbm, 271, rfl⟩
abbrev main_while0b_c_49 : Ref sig .tc := ⟨.hbm, 272, rfl⟩
abbrev main_while0b_v205 : Ref sig .tc := ⟨.hbm, 273, rfl⟩
abbrev main_while0b_c_50 : Ref sig .tc := ⟨.hbm, 274, rfl⟩
abbrev main_while0b_v206 : Ref sig .tc := ⟨.hbm, 275, rfl⟩
abbrev main_while0b_v207 : Ref sig .tc := ⟨.hbm, 276, rfl⟩
abbrev main_while0b_c_51 : Ref sig .tc := ⟨.hbm, 277, rfl⟩
abbrev main_while0b_c_52 : Ref sig .tc := ⟨.hbm, 278, rfl⟩
abbrev main_while0b_c_53 : Ref sig .tc := ⟨.hbm, 279, rfl⟩
abbrev main_while0b_c_54 : Ref sig .tc := ⟨.hbm, 280, rfl⟩
abbrev main_while0b_c_55 : Ref sig .tc := ⟨.hbm, 281, rfl⟩
abbrev main_while0b_v208 : Ref sig .tc := ⟨.hbm, 282, rfl⟩
abbrev main_while0b_v209 : Ref sig .tc := ⟨.hbm, 283, rfl⟩
abbrev main_while0b_v210 : Ref sig .tc := ⟨.hbm, 284, rfl⟩
abbrev main_while0b_v211 : Ref sig .tc := ⟨.hbm, 285, rfl⟩
abbrev main_while0b_v212 : Ref sig .tc := ⟨.hbm, 286, rfl⟩
abbrev main_while0b_v213 : Ref sig .tc := ⟨.hbm, 287, rfl⟩
abbrev main_while0b_v214 : Ref sig .tc := ⟨.hbm, 288, rfl⟩
abbrev main_while0b_v215 : Ref sig .tc := ⟨.hbm, 289, rfl⟩
abbrev main_while0b_v216 : Ref sig .tc := ⟨.hbm, 290, rfl⟩
abbrev main_while0b_v217 : Ref sig .tc := ⟨.hbm, 291, rfl⟩
abbrev main_while0b_v218 : Ref sig .tc := ⟨.hbm, 292, rfl⟩
abbrev main_while0b_v219 : Ref sig .tc := ⟨.hbm, 293, rfl⟩
abbrev main_while0b_v220 : Ref sig .tc := ⟨.hbm, 294, rfl⟩
abbrev main_while0b_v221 : Ref sig .tc := ⟨.hbm, 295, rfl⟩
abbrev main_while0b_v222 : Ref sig .tc := ⟨.hbm, 296, rfl⟩
abbrev main_while0b_v223 : Ref sig .tc := ⟨.hbm, 297, rfl⟩
abbrev main_while0b_v224 : Ref sig .tc := ⟨.hbm, 298, rfl⟩
abbrev main_while0b_v225 : Ref sig .tc := ⟨.hbm, 299, rfl⟩
abbrev main_while0b_v226 : Ref sig .tc := ⟨.hbm, 300, rfl⟩
abbrev main_while0b_v227 : Ref sig .tc := ⟨.hbm, 301, rfl⟩
abbrev main_while0b_v228 : Ref sig .tc := ⟨.hbm, 302, rfl⟩
abbrev main_while0b_v229 : Ref sig .tc := ⟨.hbm, 303, rfl⟩
abbrev main_while0b_v230 : Ref sig .tc := ⟨.hbm, 304, rfl⟩
abbrev main_while0b_v231 : Ref sig .tc := ⟨.hbm, 305, rfl⟩
abbrev main_while0b_v232 : Ref sig .tc := ⟨.hbm, 306, rfl⟩
abbrev main_while0b_v233 : Ref sig .tc := ⟨.hbm, 307, rfl⟩
abbrev main_while0b_v234 : Ref sig .tc := ⟨.hbm, 308, rfl⟩
abbrev main_while0b_v235 : Ref sig .tc := ⟨.hbm, 309, rfl⟩
abbrev main_while0b_v236 : Ref sig .tc := ⟨.hbm, 310, rfl⟩
abbrev main_while0b_v237 : Ref sig .tc := ⟨.hbm, 311, rfl⟩
abbrev main_while0b_v238 : Ref sig .tc := ⟨.hbm, 312, rfl⟩
abbrev main_while0b_v239 : Ref sig .tc := ⟨.hbm, 313, rfl⟩
abbrev main_while0b_v240 : Ref sig .tc := ⟨.hbm, 314, rfl⟩
abbrev main_while0b_v241 : Ref sig .tc := ⟨.hbm, 315, rfl⟩
abbrev main_while0b_v242 : Ref sig .tc := ⟨.hbm, 316, rfl⟩
abbrev main_while0b_v243 : Ref sig .tc := ⟨.hbm, 317, rfl⟩
abbrev main_while0b_v244 : Ref sig .tc := ⟨.hbm, 318, rfl⟩
abbrev main_while0b_v245 : Ref sig .tc := ⟨.hbm, 319, rfl⟩
abbrev main_while0b_v246 : Ref sig .tc := ⟨.hbm, 320, rfl⟩
abbrev main_while0b_v247 : Ref sig .tc := ⟨.hbm, 321, rfl⟩
abbrev main_while0b_v248 : Ref sig .tc := ⟨.hbm, 322, rfl⟩
abbrev main_while0b_v249 : Ref sig .tc := ⟨.hbm, 323, rfl⟩
abbrev main_while0b_v250 : Ref sig .tc := ⟨.hbm, 324, rfl⟩
abbrev main_while0b_v251 : Ref sig .tc := ⟨.hbm, 325, rfl⟩
abbrev main_while0b_v252 : Ref sig .tc := ⟨.hbm, 326, rfl⟩
abbrev main_while0b_v253 : Ref sig .tc := ⟨.hbm, 327, rfl⟩
abbrev main_while0b_v254 : Ref sig .tc := ⟨.hbm, 328, rfl⟩
abbrev main_while0b_v255 : Ref sig .tc := ⟨.hbm, 329, rfl⟩
abbrev main_while0b_v256 : Ref sig .tc := ⟨.hbm, 330, rfl⟩
abbrev main_while0b_v257 : Ref sig .tc := ⟨.hbm, 331, rfl⟩
abbrev main_while0b_v258 : Ref sig .tc := ⟨.hbm, 332, rfl⟩
abbrev main_while0b_v259 : Ref sig .tc := ⟨.hbm, 333, rfl⟩
abbrev main_while0b_v260 : Ref sig .tc := ⟨.hbm, 334, rfl⟩
abbrev main_while0b_v261 : Ref sig .tc := ⟨.hbm, 335, rfl⟩
abbrev main_while0b_v262 : Ref sig .tc := ⟨.hbm, 336, rfl⟩
abbrev main_while0b_cst_56 : Ref sig .tc := ⟨.hbm, 337, rfl⟩
abbrev main_while0b_v263 : Ref sig .tc := ⟨.hbm, 338, rfl⟩
abbrev main_while0b_v264 : Ref sig .tc := ⟨.hbm, 339, rfl⟩
abbrev main_while0b_v265 : Ref sig .tc := ⟨.hbm, 340, rfl⟩
abbrev main_while0b_cst_57 : Ref sig .tc := ⟨.hbm, 341, rfl⟩
abbrev main_while0b_v266 : Ref sig .tc := ⟨.hbm, 342, rfl⟩
abbrev main_while0b_v267 : Ref sig .tc := ⟨.hbm, 343, rfl⟩
abbrev main_while0b_v268 : Ref sig .tc := ⟨.hbm, 344, rfl⟩
abbrev main_while0b_cst_58 : Ref sig .tc := ⟨.hbm, 345, rfl⟩
abbrev main_while0b_v269 : Ref sig .tc := ⟨.hbm, 346, rfl⟩
abbrev main_while0b_v270 : Ref sig .tc := ⟨.hbm, 347, rfl⟩
abbrev main_while0b_v271 : Ref sig .tc := ⟨.hbm, 348, rfl⟩
abbrev main_while0b_cst_59 : Ref sig .tc := ⟨.hbm, 349, rfl⟩
abbrev main_while0b_v272 : Ref sig .tc := ⟨.hbm, 350, rfl⟩
abbrev main_while0b_v273 : Ref sig .tc := ⟨.hbm, 351, rfl⟩
abbrev main_while0b_v274 : Ref sig .tc := ⟨.hbm, 352, rfl⟩
abbrev main_while0b_cst_60 : Ref sig .tc := ⟨.hbm, 353, rfl⟩
abbrev main_while0b_v275 : Ref sig .tc := ⟨.hbm, 354, rfl⟩
abbrev main_while0b_v276 : Ref sig .tc := ⟨.hbm, 355, rfl⟩
abbrev main_while0b_v277 : Ref sig .tc := ⟨.hbm, 356, rfl⟩
abbrev main_while0b_cst_61 : Ref sig .tc := ⟨.hbm, 357, rfl⟩
abbrev main_while0b_v278 : Ref sig .tc := ⟨.hbm, 358, rfl⟩
abbrev main_while0b_v279 : Ref sig .tc := ⟨.hbm, 359, rfl⟩
abbrev main_while0b_v280 : Ref sig .tc := ⟨.hbm, 360, rfl⟩
abbrev main_while0b_v281 : Ref sig .tc := ⟨.hbm, 361, rfl⟩
abbrev main_while0b_v282 : Ref sig .tc := ⟨.hbm, 362, rfl⟩
abbrev main_while0b_v283 : Ref sig .tc := ⟨.hbm, 363, rfl⟩
abbrev main_while0b_v284 : Ref sig .tc := ⟨.hbm, 364, rfl⟩
abbrev main_while0b_v285 : Ref sig .tc := ⟨.hbm, 365, rfl⟩
abbrev main_while0b_v286 : Ref sig .tc := ⟨.hbm, 366, rfl⟩
abbrev main_while0b_v287 : Ref sig .tc := ⟨.hbm, 367, rfl⟩
abbrev main_while0b_v288 : Ref sig .tc := ⟨.hbm, 368, rfl⟩
abbrev main_while0b_v289 : Ref sig .tc := ⟨.hbm, 369, rfl⟩
abbrev main_while0b_v290 : Ref sig .tc := ⟨.hbm, 370, rfl⟩
abbrev main_while0b_v291 : Ref sig .tc := ⟨.hbm, 371, rfl⟩
abbrev main_while0b_v292 : Ref sig .tc := ⟨.hbm, 372, rfl⟩
abbrev main_while0b_v293 : Ref sig .tc := ⟨.hbm, 373, rfl⟩
abbrev main_while0b_v294 : Ref sig .tc := ⟨.hbm, 374, rfl⟩
abbrev main_while0b_v295 : Ref sig .tc := ⟨.hbm, 375, rfl⟩
abbrev main_while0b_v296 : Ref sig .tc := ⟨.hbm, 376, rfl⟩
abbrev main_while0b_v297 : Ref sig .tc := ⟨.hbm, 377, rfl⟩
abbrev main_while0b_v298 : Ref sig .tc := ⟨.hbm, 378, rfl⟩
abbrev main_while0b_v299 : Ref sig .tc := ⟨.hbm, 379, rfl⟩
abbrev main_while0b_v300 : Ref sig .tc := ⟨.hbm, 380, rfl⟩
abbrev main_while0b_v301 : Ref sig .tc := ⟨.hbm, 381, rfl⟩
abbrev main_while0b_v302 : Ref sig .tc := ⟨.hbm, 382, rfl⟩
abbrev main_while0b_v303 : Ref sig .tc := ⟨.hbm, 383, rfl⟩
abbrev main_while0b_v304 : Ref sig .tc := ⟨.hbm, 384, rfl⟩
abbrev main_while0b_v305 : Ref sig .tc := ⟨.hbm, 385, rfl⟩
abbrev main_while0b_v306 : Ref sig .tc := ⟨.hbm, 386, rfl⟩
abbrev main_while0b_v307 : Ref sig .tc := ⟨.hbm, 387, rfl⟩
abbrev main_while0b_v308 : Ref sig .tc := ⟨.hbm, 388, rfl⟩
abbrev main_while0b_v309 : Ref sig .tc := ⟨.hbm, 389, rfl⟩
abbrev main_while0b_v310 : Ref sig .tc := ⟨.hbm, 390, rfl⟩
abbrev main_while0b_v311 : Ref sig .tc := ⟨.hbm, 391, rfl⟩
abbrev main_while0b_v312 : Ref sig .tc := ⟨.hbm, 392, rfl⟩
abbrev main_while0b_v313 : Ref sig .tc := ⟨.hbm, 393, rfl⟩
abbrev main_while0b_v314 : Ref sig .tc := ⟨.hbm, 394, rfl⟩
abbrev main_while0b_v315 : Ref sig .tc := ⟨.hbm, 395, rfl⟩
abbrev main_while0b_v316 : Ref sig .tc := ⟨.hbm, 396, rfl⟩
abbrev main_while0b_v317 : Ref sig .tc := ⟨.hbm, 397, rfl⟩
abbrev main_while0b_v318 : Ref sig .tc := ⟨.hbm, 398, rfl⟩
abbrev main_while0b_v319 : Ref sig .tc := ⟨.hbm, 399, rfl⟩
abbrev main_while0b_v320 : Ref sig .tc := ⟨.hbm, 400, rfl⟩
abbrev main_while0b_v321 : Ref sig .tc := ⟨.hbm, 401, rfl⟩
abbrev main_while0b_v322 : Ref sig .tc := ⟨.hbm, 402, rfl⟩
abbrev main_while0b_v323 : Ref sig .tc := ⟨.hbm, 403, rfl⟩
abbrev main_while0b_v324 : Ref sig .tc := ⟨.hbm, 404, rfl⟩
abbrev main_while0b_v325 : Ref sig .tc := ⟨.hbm, 405, rfl⟩
abbrev main_while0b_v326 : Ref sig .tc := ⟨.hbm, 406, rfl⟩
abbrev main_while0b_v327 : Ref sig .tc := ⟨.hbm, 407, rfl⟩
abbrev main_while0b_v328 : Ref sig .tc := ⟨.hbm, 408, rfl⟩
abbrev main_while0b_v329 : Ref sig .tc := ⟨.hbm, 409, rfl⟩
abbrev main_while0b_v330 : Ref sig .tc := ⟨.hbm, 410, rfl⟩
abbrev main_while0b_v331 : Ref sig .tc := ⟨.hbm, 411, rfl⟩
abbrev main_while0b_v332 : Ref sig .tc := ⟨.hbm, 412, rfl⟩
abbrev main_while0b_v333 : Ref sig .tc := ⟨.hbm, 413, rfl⟩
abbrev main_while0b_v334 : Ref sig .tc := ⟨.hbm, 414, rfl⟩
abbrev main_while0b_cst_62 : Ref sig .tc := ⟨.hbm, 415, rfl⟩
abbrev main_while0b_v335 : Ref sig .tc := ⟨.hbm, 416, rfl⟩
abbrev main_while0b_v336 : Ref sig .tc := ⟨.hbm, 417, rfl⟩
abbrev main_while0b_v337 : Ref sig .tc := ⟨.hbm, 418, rfl⟩
abbrev main_while0b_cst_63 : Ref sig .tc := ⟨.hbm, 419, rfl⟩
abbrev main_while0b_v338 : Ref sig .tc := ⟨.hbm, 420, rfl⟩
abbrev main_while0b_v339 : Ref sig .tc := ⟨.hbm, 421, rfl⟩
abbrev main_while0b_v340 : Ref sig .tc := ⟨.hbm, 422, rfl⟩
abbrev main_while0b_cst_64 : Ref sig .tc := ⟨.hbm, 423, rfl⟩
abbrev main_while0b_v341 : Ref sig .tc := ⟨.hbm, 424, rfl⟩
abbrev main_while0b_v342 : Ref sig .tc := ⟨.hbm, 425, rfl⟩
abbrev main_while0b_v343 : Ref sig .tc := ⟨.hbm, 426, rfl⟩
abbrev main_while0b_cst_65 : Ref sig .tc := ⟨.hbm, 427, rfl⟩
abbrev main_while0b_v344 : Ref sig .tc := ⟨.hbm, 428, rfl⟩
abbrev main_while0b_v345 : Ref sig .tc := ⟨.hbm, 429, rfl⟩
abbrev main_while0b_v346 : Ref sig .tc := ⟨.hbm, 430, rfl⟩
abbrev main_while0b_cst_66 : Ref sig .tc := ⟨.hbm, 431, rfl⟩
abbrev main_while0b_v347 : Ref sig .tc := ⟨.hbm, 432, rfl⟩
abbrev main_while0b_v348 : Ref sig .tc := ⟨.hbm, 433, rfl⟩
abbrev main_while0b_v349 : Ref sig .tc := ⟨.hbm, 434, rfl⟩
abbrev main_while0b_cst_67 : Ref sig .tc := ⟨.hbm, 435, rfl⟩
abbrev main_while0b_v350 : Ref sig .tc := ⟨.hbm, 436, rfl⟩
abbrev main_while0b_v351 : Ref sig .tc := ⟨.hbm, 437, rfl⟩
abbrev main_while0b_v352 : Ref sig .tc := ⟨.hbm, 438, rfl⟩
abbrev main_while0b_v353 : Ref sig .tc := ⟨.hbm, 439, rfl⟩
abbrev main_while0b_v354 : Ref sig .tc := ⟨.hbm, 440, rfl⟩
abbrev main_while0b_v355 : Ref sig .tc := ⟨.hbm, 441, rfl⟩
abbrev main_while0b_v356 : Ref sig .tc := ⟨.hbm, 442, rfl⟩
abbrev main_while0b_v357 : Ref sig .tc := ⟨.hbm, 443, rfl⟩
abbrev main_while0b_v358 : Ref sig .tc := ⟨.hbm, 444, rfl⟩
abbrev main_while0b_v359 : Ref sig .tc := ⟨.hbm, 445, rfl⟩
abbrev main_while0b_v360 : Ref sig .tc := ⟨.hbm, 446, rfl⟩
abbrev main_while0b_v361 : Ref sig .tc := ⟨.hbm, 447, rfl⟩
abbrev main_while0b_v362 : Ref sig .tc := ⟨.hbm, 448, rfl⟩
abbrev main_while0b_v363 : Ref sig .tc := ⟨.hbm, 449, rfl⟩
abbrev main_while0b_v364 : Ref sig .tc := ⟨.hbm, 450, rfl⟩
abbrev main_while0b_v365 : Ref sig .tc := ⟨.hbm, 451, rfl⟩
abbrev main_while0b_v366 : Ref sig .tc := ⟨.hbm, 452, rfl⟩
abbrev main_while0b_v367 : Ref sig .tc := ⟨.hbm, 453, rfl⟩
abbrev main_while0b_v368 : Ref sig .tc := ⟨.hbm, 454, rfl⟩
abbrev main_while0b_v369 : Ref sig .tc := ⟨.hbm, 455, rfl⟩
abbrev main_while0b_v370 : Ref sig .tc := ⟨.hbm, 456, rfl⟩
abbrev main_while0b_v371 : Ref sig .tc := ⟨.hbm, 457, rfl⟩
abbrev main_while0b_v372 : Ref sig .tc := ⟨.hbm, 458, rfl⟩
abbrev main_while0b_v373 : Ref sig .tc := ⟨.hbm, 459, rfl⟩
abbrev main_while0b_v374 : Ref sig .tc := ⟨.hbm, 460, rfl⟩
abbrev main_while0b_v375 : Ref sig .tc := ⟨.hbm, 461, rfl⟩
abbrev main_while0b_v376 : Ref sig .tc := ⟨.hbm, 462, rfl⟩
abbrev main_while0b_v377 : Ref sig .tc := ⟨.hbm, 463, rfl⟩
abbrev main_while0b_v378 : Ref sig .tc := ⟨.hbm, 464, rfl⟩
abbrev main_while0b_v379 : Ref sig .tc := ⟨.hbm, 465, rfl⟩
abbrev main_while0b_v380 : Ref sig .tc := ⟨.hbm, 466, rfl⟩
abbrev main_while0b_v381 : Ref sig .tc := ⟨.hbm, 467, rfl⟩
abbrev main_while0b_v382 : Ref sig .tc := ⟨.hbm, 468, rfl⟩
abbrev main_while0b_v383 : Ref sig .tc := ⟨.hbm, 469, rfl⟩
abbrev main_while0b_v384 : Ref sig .tc := ⟨.hbm, 470, rfl⟩
abbrev main_while0b_v385 : Ref sig .tc := ⟨.hbm, 471, rfl⟩
abbrev main_while0b_v386 : Ref sig .tc := ⟨.hbm, 472, rfl⟩
abbrev main_while0b_v387 : Ref sig .tc := ⟨.hbm, 473, rfl⟩
abbrev main_while0b_v388 : Ref sig .tc := ⟨.hbm, 474, rfl⟩
abbrev main_while0b_v389 : Ref sig .tc := ⟨.hbm, 475, rfl⟩
abbrev main_while0b_v390 : Ref sig .tc := ⟨.hbm, 476, rfl⟩
abbrev main_while0b_v391 : Ref sig .tc := ⟨.hbm, 477, rfl⟩
abbrev main_while0b_v392 : Ref sig .tc := ⟨.hbm, 478, rfl⟩
abbrev main_while0b_v393 : Ref sig .tc := ⟨.hbm, 479, rfl⟩
abbrev main_while0b_v394 : Ref sig .tc := ⟨.hbm, 480, rfl⟩
abbrev main_while0b_v395 : Ref sig .tc := ⟨.hbm, 481, rfl⟩
abbrev main_while0b_v396 : Ref sig .tc := ⟨.hbm, 482, rfl⟩
abbrev main_while0b_v397 : Ref sig .tc := ⟨.hbm, 483, rfl⟩
abbrev main_while0b_v398 : Ref sig .tc := ⟨.hbm, 484, rfl⟩
abbrev main_while0b_v399 : Ref sig .tc := ⟨.hbm, 485, rfl⟩
abbrev main_while0b_v400 : Ref sig .tc := ⟨.hbm, 486, rfl⟩
abbrev main_while0b_v401 : Ref sig .tc := ⟨.hbm, 487, rfl⟩
abbrev main_while0b_v402 : Ref sig .tc := ⟨.hbm, 488, rfl⟩
abbrev main_while0b_v403 : Ref sig .tc := ⟨.hbm, 489, rfl⟩
abbrev main_while0b_v404 : Ref sig .tc := ⟨.hbm, 490, rfl⟩
abbrev main_while0b_v405 : Ref sig .tc := ⟨.hbm, 491, rfl⟩
abbrev main_while0b_v406 : Ref sig .tc := ⟨.hbm, 492, rfl⟩
abbrev main_while0b_v407 : Ref sig .tc := ⟨.hbm, 493, rfl⟩
abbrev main_while0b_v408 : Ref sig .tc := ⟨.hbm, 494, rfl⟩
abbrev main_while0b_v409 : Ref sig .tc := ⟨.hbm, 495, rfl⟩
abbrev main_while0b_v410 : Ref sig .tc := ⟨.hbm, 496, rfl⟩
abbrev main_while0b_v411 : Ref sig .tc := ⟨.hbm, 497, rfl⟩
abbrev main_while0b_v412 : Ref sig .tc := ⟨.hbm, 498, rfl⟩
abbrev main_while0b_v413 : Ref sig .tc := ⟨.hbm, 499, rfl⟩
abbrev main_while0b_v414 : Ref sig .tc := ⟨.hbm, 500, rfl⟩
abbrev main_while0b_v415 : Ref sig .tc := ⟨.hbm, 501, rfl⟩
abbrev main_while0b_v416 : Ref sig .tc := ⟨.hbm, 502, rfl⟩
abbrev main_while0b_v417 : Ref sig .tc := ⟨.hbm, 503, rfl⟩
abbrev main_while0b_v418 : Ref sig .tc := ⟨.hbm, 504, rfl⟩
abbrev main_while0b_v419 : Ref sig .tc := ⟨.hbm, 505, rfl⟩
abbrev main_while0b_v420 : Ref sig .tc := ⟨.hbm, 506, rfl⟩
abbrev main_while0b_v421 : Ref sig .tc := ⟨.hbm, 507, rfl⟩
abbrev main_while0b_v422 : Ref sig .tc := ⟨.hbm, 508, rfl⟩
abbrev main_while0b_v423 : Ref sig .tc := ⟨.hbm, 509, rfl⟩
abbrev main_while0b_v424 : Ref sig .tc := ⟨.hbm, 510, rfl⟩
abbrev main_while0b_v425 : Ref sig .tc := ⟨.hbm, 511, rfl⟩
abbrev main_while0b_v426 : Ref sig .tc := ⟨.hbm, 512, rfl⟩
abbrev main_while0b_v427 : Ref sig .tc := ⟨.hbm, 513, rfl⟩
abbrev main_while0b_v428 : Ref sig .tc := ⟨.hbm, 514, rfl⟩
abbrev main_while0b_v429 : Ref sig .tc := ⟨.hbm, 515, rfl⟩
abbrev main_while0b_v430 : Ref sig .tc := ⟨.hbm, 516, rfl⟩
abbrev main_while0b_v431 : Ref sig .tc := ⟨.hbm, 517, rfl⟩
abbrev main_while0b_v432 : Ref sig .tc := ⟨.hbm, 518, rfl⟩
abbrev main_while0b_v433 : Ref sig .tc := ⟨.hbm, 519, rfl⟩
abbrev main_while0b_v434 : Ref sig .tc := ⟨.hbm, 520, rfl⟩
abbrev main_while0b_v435 : Ref sig .tc := ⟨.hbm, 521, rfl⟩
abbrev main_while0b_v436 : Ref sig .tc := ⟨.hbm, 522, rfl⟩
abbrev main_while0b_v437 : Ref sig .tc := ⟨.hbm, 523, rfl⟩
abbrev main_while0b_v438 : Ref sig .tc := ⟨.hbm, 524, rfl⟩
abbrev main_while0b_v439 : Ref sig .tc := ⟨.hbm, 525, rfl⟩
abbrev main_while0b_v440 : Ref sig .tc := ⟨.hbm, 526, rfl⟩
abbrev main_while0b_v441 : Ref sig .tc := ⟨.hbm, 527, rfl⟩
abbrev main_while0b_v442 : Ref sig .tc := ⟨.hbm, 528, rfl⟩
abbrev main_while0b_v443 : Ref sig .tc := ⟨.hbm, 529, rfl⟩
abbrev main_while0b_v444 : Ref sig .tc := ⟨.hbm, 530, rfl⟩
abbrev main_while0b_v445 : Ref sig .tc := ⟨.hbm, 531, rfl⟩
abbrev main_while0b_v446 : Ref sig .tc := ⟨.hbm, 532, rfl⟩
abbrev main_while0b_cst_68 : Ref sig .tc := ⟨.hbm, 533, rfl⟩
abbrev main_while0b_v447 : Ref sig .tc := ⟨.hbm, 534, rfl⟩
abbrev main_while0b_v448 : Ref sig .tc := ⟨.hbm, 535, rfl⟩
abbrev main_while0b_v449 : Ref sig .tc := ⟨.hbm, 536, rfl⟩
abbrev main_while0b_cst_69 : Ref sig .tc := ⟨.hbm, 537, rfl⟩
abbrev main_while0b_v450 : Ref sig .tc := ⟨.hbm, 538, rfl⟩
abbrev main_while0b_v451 : Ref sig .tc := ⟨.hbm, 539, rfl⟩
abbrev main_while0b_v452 : Ref sig .tc := ⟨.hbm, 540, rfl⟩
abbrev main_while0b_cst_70 : Ref sig .tc := ⟨.hbm, 541, rfl⟩
abbrev main_while0b_v453 : Ref sig .tc := ⟨.hbm, 542, rfl⟩
abbrev main_while0b_v454 : Ref sig .tc := ⟨.hbm, 543, rfl⟩
abbrev main_while0b_v455 : Ref sig .tc := ⟨.hbm, 544, rfl⟩
abbrev main_while0b_cst_71 : Ref sig .tc := ⟨.hbm, 545, rfl⟩
abbrev main_while0b_v456 : Ref sig .tc := ⟨.hbm, 546, rfl⟩
abbrev main_while0b_v457 : Ref sig .tc := ⟨.hbm, 547, rfl⟩
abbrev main_while0b_v458 : Ref sig .tc := ⟨.hbm, 548, rfl⟩
abbrev main_while0b_cst_72 : Ref sig .tc := ⟨.hbm, 549, rfl⟩
abbrev main_while0b_v459 : Ref sig .tc := ⟨.hbm, 550, rfl⟩
abbrev main_while0b_v460 : Ref sig .tc := ⟨.hbm, 551, rfl⟩
abbrev main_while0b_v461 : Ref sig .tc := ⟨.hbm, 552, rfl⟩
abbrev main_while0b_cst_73 : Ref sig .tc := ⟨.hbm, 553, rfl⟩
abbrev main_while0b_v462 : Ref sig .tc := ⟨.hbm, 554, rfl⟩
abbrev main_while0b_v463 : Ref sig .tc := ⟨.hbm, 555, rfl⟩
abbrev main_while0b_v464 : Ref sig .tc := ⟨.hbm, 556, rfl⟩
abbrev main_while0b_c_74 : Ref sig .tc := ⟨.hbm, 557, rfl⟩
abbrev main_while0b_v465 : Ref sig .tc := ⟨.hbm, 558, rfl⟩
abbrev main_v162 : Ref sig .tc := ⟨.hbm, 559, rfl⟩
abbrev main_v163 : Ref sig .tc := ⟨.hbm, 560, rfl⟩
abbrev main_v164 : Ref sig .tc := ⟨.hbm, 561, rfl⟩
abbrev main_v165 : Ref sig .tc := ⟨.hbm, 562, rfl⟩
abbrev main_cst_16 : Ref sig .tc := ⟨.hbm, 563, rfl⟩
abbrev main_v166 : Ref sig .tc := ⟨.hbm, 564, rfl⟩
abbrev main_cst_17 : Ref sig .tc := ⟨.hbm, 565, rfl⟩
abbrev main_v167 : Ref sig .tc := ⟨.hbm, 566, rfl⟩
abbrev main_v168 : Ref sig .tc := ⟨.hbm, 567, rfl⟩
abbrev main_v169 : Ref sig .tc := ⟨.hbm, 568, rfl⟩
abbrev main_v170 : Ref sig .tc := ⟨.hbm, 569, rfl⟩
abbrev main_v171 : Ref sig .tc := ⟨.hbm, 570, rfl⟩
abbrev main_v172 : Ref sig .tc := ⟨.hbm, 571, rfl⟩
abbrev main_cst_18 : Ref sig .tc := ⟨.hbm, 572, rfl⟩
abbrev main_v173 : Ref sig .tc := ⟨.hbm, 573, rfl⟩
abbrev main_v174 : Ref sig .tc := ⟨.hbm, 574, rfl⟩
abbrev main_v175 : Ref sig .tc := ⟨.hbm, 575, rfl⟩
abbrev main_v176 : Ref sig .tc := ⟨.hbm, 576, rfl⟩
abbrev main_v177 : Ref sig .tc := ⟨.hbm, 577, rfl⟩
abbrev main_v178 : Ref sig .tc := ⟨.hbm, 578, rfl⟩

abbrev nD : Nat := 1
abbrev τ : Topo := Topo.v7x

variable {F : FTy → Type} [FloatOps F]

abbrev main_while0_count : Scf.Loop 32 := ⟨0#32, 7#32, 1#32⟩
-- ==== Proof.KernelIdeal.Scan.lean ====
module

public import proofs.«01_k».proof.Proof.Gen.KernelIdeal.Loops

/-! The scan loop of the kernel's body: what one round yields, as a function of the lane numbers, the
    round's number and the carried value, and the loop's invariant, the carried value before a round. -/

@[expose] public section

set_option maxRecDepth 8192
set_option maxHeartbeats 4000000

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- What both loops carry: the four levels of every lane's element. -/
abbrev Carried (F : FTy → Type) : Type :=
  FVec F S8x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32 × FVec F S64x128 .f32 ×
  FVec F S64x128 .f32 × FVec F S64x128 .f32 × FVec F S64x128 .f32 × FVec F S64x128 .f32

/-- One round: what it yields, found by running it. -/
@[irreducible] def round :
    { R : IVec S1x128 32 → Fin k0_t2_loop.trips → Carried F → Carried F //
      ∀ (𝒱 : Variants) (c : Dev nD) (bd : Option 𝒱.V) (E : Set ℕ)
    (i : grid0.Coords) (arg1 : Memref sig .tc .vmem S1x16x8x128 .f32) (harg1 : arg1.IsWhole) (arg2 : Memref
    sig .tc .vmem S4680x256 .f32) (harg2 : arg2.IsWhole) (arg3 : Memref sig .tc .vmem S1x256 .f32) (harg3 :
    arg3.IsWhole) (arg4 : Memref sig .tc .vmem S256x1 .f32) (harg4 : arg4.IsWhole) (arg5 : Memref sig .tc
    .vmem S1x1 .f32) (harg5 : arg5.IsWhole) (arg6 : Memref sig .tc .vmem S1x1x1 .f32) (harg6 : arg6.IsWhole)
    (v1 v7 : FVec F S8x128 .f32)
    (v13 v20 v27 v34 v41 v48 v55 v62 v69 v72 v75 v78 v81 v84 v87 v90 v93 v96 v99 v102 v105 v108 v111 v114
    v117 v120 v123 v126 v129 v132 v135 v138 v141 v144 v147 v150 v153 v156 v159 v162 v165 v168 v171 v174 v177
    v180 v183 v186 v189 v192 v195 v198 v201 v204 v207 v210 v213 v216 v219 v222 v225 v228 v231 : FVec F
    S64x128 .f32)
    (lane : IVec S1x128 32) (k : Fin k0_t2_loop.trips) (acc : Carried F),
      (iprop(emp) : sProp (MT nD τ sig Unit (Elt F) ℕ (UR sig nD τ) ℕ)) ⊢
        wp Idealize.ShloMosaic.frame (wpE (defs₀ (F := F)) 𝒱 (c : Thread nD τ) bd) E
        (k0_t2_body (F := F)
      i arg1 harg1 arg2 harg2 arg3 harg3 arg4 harg4 arg5 harg5 arg6 harg6 v1 v7 v13 v20 v27 v34 v41 v48 v55
      v62 v69 v72 v75 v78 v81 v84 v87 v90 v93 v96 v99 v102 v105 v108 v111 v114 v117 v120 v123 v126 v129 v132
      v135 v138 v141 v144 v147 v150 v153 v156 v159 v162 v165 v168 v171 v174 v177 v180 v183 v186 v189 v192
      v195 v198 v201 v204 v207 v210 v213 v216 v219 v222 v225 v228 v231 lane k acc)
        (fun yld => iprop(⌜yld = R lane k acc⌝)) } := by
  refine ⟨?_, ?run⟩
  case run =>
    intros
    unfold k0_t2_body
    iintro _
    sl_exec
    sl_step
    sl_close

/-- Two carried values are the same one. -/
structure Same (a b : Carried F) : Prop where
  eq : a = b

@[refl] theorem Same.refl (a : Carried F) : Same a a := ⟨rfl⟩

/-- The carried value before round `k`. -/
def rounds (lane : IVec S1x128 32) (init : Carried F) : ℕ → Carried F
  | 0 => init
  | k + 1 => if h : k < k0_t2_loop.trips then (round (F := F)).1 lane ⟨k, h⟩ (rounds lane init k)
      else rounds lane init k

theorem rounds_succ (lane : IVec S1x128 32) (init : Carried F) (k : Fin k0_t2_loop.trips) :
    rounds lane init (k.val + 1) = (round (F := F)).1 lane k (rounds lane init k.val) :=
  dif_pos k.isLt

theorem rounds_zero (lane : IVec S1x128 32) (init : Carried F) : rounds lane init 0 = init := rfl

attribute [irreducible] rounds

/-- The same, its first value in the open. -/
@[reducible] def roundsAt (lane : IVec S1x128 32) (init : Carried F) : ℕ → Carried F
  | 0 => init
  | k + 1 => rounds lane init (k + 1)

theorem roundsAt_eq (lane : IVec S1x128 32) (init : Carried F) (k : ℕ) :
    roundsAt lane init k = rounds lane init k := by
  cases k with
  | zero => exact (rounds_zero lane init).symm
  | succ k => rfl

set_option warn.classDefReducibility false in
/-- The loop by its invariant. -/
@[sl_loop] def rounds_inv (𝒱 : Variants) (c : Dev nD) (bd : Option 𝒱.V) (E : Set ℕ)
    (i : grid0.Coords) (arg1 : Memref sig .tc .vmem S1x16x8x128 .f32) (harg1 : arg1.IsWhole) (arg2 : Memref
    sig .tc .vmem S4680x256 .f32) (harg2 : arg2.IsWhole) (arg3 : Memref sig .tc .vmem S1x256 .f32) (harg3 :
    arg3.IsWhole) (arg4 : Memref sig .tc .vmem S256x1 .f32) (harg4 : arg4.IsWhole) (arg5 : Memref sig .tc
    .vmem S1x1 .f32) (harg5 : arg5.IsWhole) (arg6 : Memref sig .tc .vmem S1x1x1 .f32) (harg6 : arg6.IsWhole)
    (v1 v7 : FVec F S8x128 .f32)
    (v13 v20 v27 v34 v41 v48 v55 v62 v69 v72 v75 v78 v81 v84 v87 v90 v93 v96 v99 v102 v105 v108 v111 v114
    v117 v120 v123 v126 v129 v132 v135 v138 v141 v144 v147 v150 v153 v156 v159 v162 v165 v168 v171 v174 v177
    v180 v183 v186 v189 v192 v195 v198 v201 v204 v207 v210 v213 v216 v219 v222 v225 v228 v231 : FVec F
    S64x128 .f32)
    (lane : IVec S1x128 32) (init : Carried F) :
    LoopInvTy_k0_t2 (F := F) Unit ℕ (UR sig nD τ) ℕ 𝒱 c bd E
      i arg1 harg1 arg2 harg2 arg3 harg3 arg4 harg4 arg5 harg5 arg6 harg6 v1 v7 v13 v20 v27 v34 v41 v48 v55
      v62 v69 v72 v75 v78 v81 v84 v87 v90 v93 v96 v99 v102 v105 v108 v111 v114 v117 v120 v123 v126 v129 v132
      v135 v138 v141 v144 v147 v150 v153 v156 v159 v162 v165 v168 v171 v174 v177 v180 v183 v186 v189 v192
      v195 v198 v201 v204 v207 v210 v213 v216 v219 v222 v225 v228 v231 lane init where
  inv k acc := iprop(⌜Same acc (roundsAt lane init k)⌝)
  step k acc := by
    iintro %h
    have hs : ∀ y, (y = (round (F := F)).1 lane k acc) = Same y (roundsAt lane init (k.val + 1)) := fun y => by
      rw [roundsAt_eq, rounds_succ, ← roundsAt_eq, ← h.eq]; exact propext ⟨fun e => ⟨e⟩, fun e => e.eq⟩
    simp only [← hs]
    exact (round (F := F)).2 𝒱 c bd E
      i arg1 harg1 arg2 harg2 arg3 harg3 arg4 harg4 arg5 harg5 arg6 harg6 v1 v7 v13 v20 v27 v34 v41 v48 v55
      v62 v69 v72 v75 v78 v81 v84 v87 v90 v93 v96 v99 v102 v105 v108 v111 v114 v117 v120 v123 v126 v129 v132
      v135 v138 v141 v144 v147 v150 v153 v156 v159 v162 v165 v168 v171 v174 v177 v180 v183 v186 v189 v192
      v195 v198 v201 v204 v207 v210 v213 v216 v219 v222 v225 v228 v231 lane k acc

end Cert.KernelIdeal.Scan

end
-- ==== Proof.KernelIdeal.Body.lean ====
module

public import proofs.«01_k».proof.Proof.KernelIdeal.Scan
public import proofs.«01_k».proof.Proof.Gen.KernelIdeal.Frame

/-! The kernel's body on its staging buffers: what it leaves in the result's buffer, as a function of the
    blocks it is given. -/

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Scan

variable {F : FTy → Type} [FloatOps F] [Named F]

/-- The increments' slab that trip `k` of the chunk loop reads. -/
abbrev slab (k : Fin k0_t1_loop.trips) : Rect S1x16x8x128 :=
  Rect.unit (s := S1x16x8x128) (k0_off1 k) S1x1x8x128.size (k0_off1_inb k)

/-- What one trip reads: the whole block, at its contents. -/
abbrev Slabs (c : Dev nD) (arg1 : Memref sig .tc .vmem S1x16x8x128 .f32) (X : BufTy.Contents (Elt F) arg1.view.ty) : sProp (MT nD τ sig Unit (Elt F) ℕ (UR sig nD τ) ℕ) :=
  iprop(arg1.view.loc (c : Thread nD τ) ↦[arg1.view.set]{fullShare} X)

/-- One step of the chunk loop, from the slab it reads. -/
@[irreducible] def chen :
    { R : Fin k0_t1_loop.trips → Vec F S1x1x8x128 .f32 → Carried F → Carried F //
      ∀ (𝒱 : Variants) (c : Dev nD) (bd : Option 𝒱.V) (E : Set ℕ)
    (i : grid0.Coords) (arg1 : Memref sig .tc .vmem S1x16x8x128 .f32) (harg1 : arg1.IsWhole) (arg2 : Memref
    sig .tc .vmem S4680x256 .f32) (harg2 : arg2.IsWhole) (arg3 : Memref sig .tc .vmem S1x256 .f32) (harg3 :
    arg3.IsWhole) (arg4 : Memref sig .tc .vmem S256x1 .f32) (harg4 : arg4.IsWhole) (arg5 : Memref sig .tc
    .vmem S1x1 .f32) (harg5 : arg5.IsWhole) (arg6 : Memref sig .tc .vmem S1x1x1 .f32) (harg6 : arg6.IsWhole)
    (v1 v7 : FVec F S8x128 .f32)
    (v13 v20 v27 v34 v41 v48 v55 v62 v69 v72 v75 v78 v81 v84 v87 v90 v93 v96 v99 v102 v105 v108 v111 v114
    v117 v120 v123 v126 v129 v132 v135 v138 v141 v144 v147 v150 v153 v156 v159 v162 v165 v168 v171 v174 v177
    v180 v183 v186 v189 v192 v195 v198 v201 v204 v207 v210 v213 v216 v219 v222 v225 v228 v231 : FVec F
    S64x128 .f32)
    (X : BufTy.Contents (Elt F) arg1.view.ty) (k : Fin k0_t1_loop.trips) (acc : Carried F),
      Slabs (F := F) c arg1 X
      ⊢ wp Idealize.ShloMosaic.frame (wpE (defs₀ (F := F)) 𝒱 (c : Thread nD τ) bd) E
        (k0_t1_body (F := F)
      i arg1 harg1 arg2 harg2 arg3 harg3 arg4 harg4 arg5 harg5 arg6 harg6 v1 v7 v13 v20 v27 v34 v41 v48 v55
      v62 v69 v72 v75 v78 v81 v84 v87 v90 v93 v96 v99 v102 v105 v108 v111 v114 v117 v120 v123 v126 v129 v132
      v135 v138 v141 v144 v147 v150 v153 v156 v159 v162 v165 v168 v171 v174 v177 v180 v183 v186 v189 v192
      v195 v198 v201 v204 v207 v210 v213 v216 v219 v222 v225 v228 v231 k acc)
        (fun yld => iprop(⌜yld = R k (arg1.view.readAt (Elt F) (slab k).toLoadRect X) acc⌝ ∗ Slabs (F := F) c arg1 X)) } := by
  refine ⟨?_, ?run⟩
  case run =>
    intro 𝒱 c bd E
      i arg1 harg1 arg2 harg2 arg3 harg3 arg4 harg4 arg5 harg5 arg6 harg6 v1 v7 v13 v20 v27 v34 v41 v48 v55
      v62 v69 v72 v75 v78 v81 v84 v87 v90 v93 v96 v99 v102 v105 v108 v111 v114 v117 v120 v123 v126 v129 v132
      v135 v138 v141 v144 v147 v150 v153 v156 v159 v162 v165 v168 v171 v174 v177 v180 v183 v186 v189 v192
      v195 v198 v201 v204 v207 v210 v213 v216 v219 v222 v225 v228 v231 X k acc
    have hk : k.val < 15 := Nat.lt_of_lt_of_le k.isLt k0_t1_abs.2.1
    unfold k0_t1_body
    iintro HR_arg1
    set_option sl_exec.maxSteps 3 in sl_exec
    generalize View.readAt (Elt F) _ _ _ = v
    sl_exec
    sl_step
    sl_close

/-- The carried value before step `k` of the chunk loop. -/
def chens (x0 : Vec F S1x16x8x128 .f32) (init : Carried F) : ℕ → Carried F
  | 0 => init
  | k + 1 => if h : k < k0_t1_loop.trips then (chen (F := F)).1 ⟨k, h⟩ (View.ld x0 (slab ⟨k, h⟩)) (chens x0 init k)
      else chens x0 init k

theorem chens_succ (x0 : Vec F S1x16x8x128 .f32) (init : Carried F) (k : Fin k0_t1_loop.trips) :
    chens x0 init (k.val + 1) = (chen (F := F)).1 k (View.ld x0 (slab k)) (chens x0 init k.val) :=
  dif_pos k.isLt

theorem chens_zero (x0 : Vec F S1x16x8x128 .f32) (init : Carried F) : chens x0 init 0 = init := rfl

attribute [irreducible] chens

/-- The same, its first value in the open. -/
@[reducible] def chensAt (x0 : Vec F S1x16x8x128 .f32) (init : Carried F) : ℕ → Carried F
  | 0 => init
  | k + 1 => chens x0 init (k + 1)

theorem chensAt_eq (x0 : Vec F S1x16x8x128 .f32) (init : Carried F) (k : ℕ) :
    chensAt x0 init k = chens x0 init k := by
  cases k with
  | zero => exact (chens_zero x0 init).symm
  | succ k => rfl

set_option warn.classDefReducibility false in
/-- The chunk loop by its invariant, the carried value before a step. -/
@[sl_loop] def chens_inv (𝒱 : Variants) (c : Dev nD) (bd : Option 𝒱.V) (E : Set ℕ)
    (i : grid0.Coords) (arg1 : Memref sig .tc .vmem S1x16x8x128 .f32) (harg1 : arg1.IsWhole) (arg2 : Memref
    sig .tc .vmem S4680x256 .f32) (harg2 : arg2.IsWhole) (arg3 : Memref sig .tc .vmem S1x256 .f32) (harg3 :
    arg3.IsWhole) (arg4 : Memref sig .tc .vmem S256x1 .f32) (harg4 : arg4.IsWhole) (arg5 : Memref sig .tc
    .vmem S1x1 .f32) (harg5 : arg5.IsWhole) (arg6 : Memref sig .tc .vmem S1x1x1 .f32) (harg6 : arg6.IsWhole)
    (v1 v7 : FVec F S8x128 .f32)
    (v13 v20 v27 v34 v41 v48 v55 v62 v69 v72 v75 v78 v81 v84 v87 v90 v93 v96 v99 v102 v105 v108 v111 v114
    v117 v120 v123 v126 v129 v132 v135 v138 v141 v144 v147 v150 v153 v156 v159 v162 v165 v168 v171 v174 v177
    v180 v183 v186 v189 v192 v195 v198 v201 v204 v207 v210 v213 v216 v219 v222 v225 v228 v231 : FVec F
    S64x128 .f32)
    (X : BufTy.Contents (Elt F) arg1.view.ty) (init : Carried F) :
    LoopInvTy_k0_t1 (F := F) Unit ℕ (UR sig nD τ) ℕ 𝒱 c bd E
      i arg1 harg1 arg2 harg2 arg3 harg3 arg4 harg4 arg5 harg5 arg6 harg6 v1 v7 v13 v20 v27 v34 v41 v48 v55
      v62 v69 v72 v75 v78 v81 v84 v87 v90 v93 v96 v99 v102 v105 v108 v111 v114 v117 v120 v123 v126 v129 v132
      v135 v138 v141 v144 v147 v150 v153 v156 v159 v162 v165 v168 v171 v174 v177 v180 v183 v186 v189 v192
      v195 v198 v201 v204 v207 v210 v213 v216 v219 v222 v225 v228 v231 init where
  inv k acc := iprop((arg1.view.loc (c : Thread nD τ) ↦[arg1.view.set]{fullShare} X)
    ∗ ⌜Same acc (chensAt (arg1.view.read (Elt F) X) init k)⌝)
  step k acc := by
    iintro ⟨H, %h⟩
    iapply (wp_wand_r Idealize.ShloMosaic.frame (wpE (defs₀ (F := F)) 𝒱 (c : Thread nD τ) bd) E)
    isplitl [H]
    · iapply ((chen (F := F)).2 𝒱 c bd E
          i arg1 harg1 arg2 harg2 arg3 harg3 arg4 harg4 arg5 harg5 arg6 harg6 v1 v7 v13 v20 v27 v34 v41 v48 v55
          v62 v69 v72 v75 v78 v81 v84 v87 v90 v93 v96 v99 v102 v105 v108 v111 v114 v117 v120 v123 v126 v129 v132
          v135 v138 v141 v144 v147 v150 v153 v156 v159 v162 v165 v168 v171 v174 v177 v180 v183 v186 v189 v192
          v195 v198 v201 v204 v207 v210 v213 v216 v219 v222 v225 v228 v231 X k acc)
      iexact H
    · iintro %yld ⟨%hy, H⟩
      isplitl [H]; · iexact H
      ipureintro
      rw [hy, chensAt_eq, chens_succ, ← chensAt_eq, ← h.eq]
      exact Same.refl _

/-- The lane numbers the scan's masks are made of. -/
abbrev lanes : IVec S1x128 32 := iota .tc S1x128 32 [1] iota_S1x128_d1_w32

abbrev r0_0 : Rect S1x16x8x128 := Rect.unit (s := S1x16x8x128) ![0, 0, 0, 0] S1x1x8x128.size inb_S1x16x8x128_S1x1x8x128_0_0_0_0
abbrev r0_1a : Rect S4680x256 := Rect.unit (s := S4680x256) ![0, 0] S72x256.size inb_S4680x256_S72x256_0_0
abbrev r0_1b : Rect S4680x256 := Rect.unit (s := S4680x256) ![72, 0] S512x256.size inb_S4680x256_S512x256_72_0
abbrev r0_1c : Rect S4680x256 := Rect.unit (s := S4680x256) ![584, 0] S4096x256.size inb_S4680x256_S4096x256_584_0
abbrev r0_2 : Rect S1x256 := Rect.unit (s := S1x256) ![0, 0] S1x256.size inb_S1x256_S1x256_0_0
abbrev r0_3 : Rect S256x1 := Rect.unit (s := S256x1) ![0, 0] S256x1.size inb_S256x1_S256x1_0_0
abbrev r0_4 : Rect S1x1 := Rect.unit (s := S1x1) ![0, 0] S1x1.size inb_S1x1_S1x1_0_0
abbrev r0_5 : Rect S1x1x1 := Rect.unit (s := S1x1x1) ![0, 0, 0] S1x1x1.size inb_S1x1x1_S1x1x1_0_0_0

/-- The one store tiles the result's block. -/
theorem cover0_5 (p0 : Vec F S1x1x1 .f32) (y : S1x1x1.Idx) :
    ∃ pc ∈ ([⟨r0_5, p0⟩] : List (View.Piece (Elt F) S1x1x1 .f32)), y ∈ pc.1.set :=
  View.cover_of_tiled [⟨r0_5, p0⟩] S1x1x1.size (by rfl) y

/-- What both loops leave, from the first slab's element. -/
abbrev scanned (start : Vec F S1x1x8x128 .f32 → Carried F) (x0 : Vec F S1x16x8x128 .f32) : Carried F :=
  rounds lanes (chens x0 (start (View.ld x0 r0_0)) k0_t1_loop.trips) k0_t2_loop.trips

/-- The body's run: the first slab's element and the result, from what the scan leaves and the weights' loads, both
    found by running it. -/
@[irreducible] def body :
    { R : (Vec F S1x1x8x128 .f32 → Carried F) ×
        (Carried F → Vec F S72x256 .f32 → Vec F S512x256 .f32 → Vec F S4096x256 .f32 → Vec F S1x256 .f32 →
          Vec F S256x1 .f32 → Vec F S1x1 .f32 → FVec F S1x1x1 .f32) //
      ∀ (c : Dev nD) (E : Set ℕ)
    (i : grid0.Coords) (arg1 : Memref sig .tc .vmem S1x16x8x128 .f32) (harg1 : arg1.IsWhole) (arg2 : Memref
    sig .tc .vmem S4680x256 .f32) (harg2 : arg2.IsWhole) (arg3 : Memref sig .tc .vmem S1x256 .f32) (harg3 :
    arg3.IsWhole) (arg4 : Memref sig .tc .vmem S256x1 .f32) (harg4 : arg4.IsWhole) (arg5 : Memref sig .tc
    .vmem S1x1 .f32) (harg5 : arg5.IsWhole) (arg6 : Memref sig .tc .vmem S1x1x1 .f32) (harg6 : arg6.IsWhole)

    (x0 : Vec F S1x16x8x128 .f32) (x1 : Vec F S4680x256 .f32) (x2 : Vec F S1x256 .f32) (x3 : Vec F S256x1 .f32) (x4 : Vec F S1x1 .f32) (K : PUnit → sProp (MT nD τ sig Unit (Elt F) ℕ (UR sig nD τ) ℕ)),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
          ∗ owns (c : Thread nD τ) arg6 fullShare (View.canon [⟨r0_5, R.2 (scanned R.1 x0) (View.ld x1 r0_1a) (View.ld x1 r0_1b) (View.ld x1 r0_1c) (View.ld x2 r0_2) (View.ld x3 r0_3) (View.ld x4 r0_4)⟩])) -∗ K ⟨⟩))
      ⊢ wp Idealize.ShloMosaic.frame (wpE (defs₀ (F := F)) Variants.none c none) E (cc0__blamem_kernel i arg1 harg1 arg2 harg2 arg3 harg3 arg4 harg4 arg5 harg5 arg6 harg6) K } := by
  refine ⟨(?start, ?result), ?run⟩
  case run =>
    intro c E i arg1 harg1 arg2 harg2 arg3 harg3 arg4 harg4 arg5 harg5 arg6 harg6 x0 x1 x2 x3 x4 K
    simp only [cc0__blamem_kernel_eq_skeleton]; unfold cc0__blamem_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain ⟨v, hv⟩ : ∃ v : Vec F S1x1x8x128 .f32, v = View.ld x0 r0_0 := ⟨_, rfl⟩
    have hr0 : View.readAt (Elt F) arg1.view (r0_0).toLoadRect f0 = v := by rw [hv, ← hf0]; rfl
    obtain ⟨w1, hw1⟩ : ∃ w : Vec F S72x256 .f32, w = View.ld x1 r0_1a := ⟨_, rfl⟩
    have hr1a : View.readAt (Elt F) arg2.view (r0_1a).toLoadRect f1 = w1 := by rw [hw1, ← hf1]; rfl
    obtain ⟨w2, hw2⟩ : ∃ w : Vec F S512x256 .f32, w = View.ld x1 r0_1b := ⟨_, rfl⟩
    have hr1b : View.readAt (Elt F) arg2.view (r0_1b).toLoadRect f1 = w2 := by rw [hw2, ← hf1]; rfl
    obtain ⟨w3, hw3⟩ : ∃ w : Vec F S4096x256 .f32, w = View.ld x1 r0_1c := ⟨_, rfl⟩
    have hr1c : View.readAt (Elt F) arg2.view (r0_1c).toLoadRect f1 = w3 := by rw [hw3, ← hf1]; rfl
    obtain ⟨w4, hw4⟩ : ∃ w : Vec F S1x256 .f32, w = View.ld x2 r0_2 := ⟨_, rfl⟩
    have hr2 : View.readAt (Elt F) arg3.view (r0_2).toLoadRect f2 = w4 := by rw [hw4, ← hf2]; rfl
    obtain ⟨w5, hw5⟩ : ∃ w : Vec F S256x1 .f32, w = View.ld x3 r0_3 := ⟨_, rfl⟩
    have hr3 : View.readAt (Elt F) arg4.view (r0_3).toLoadRect f3 = w5 := by rw [hw5, ← hf3]; rfl
    obtain ⟨w6, hw6⟩ : ∃ w : Vec F S1x1 .f32, w = View.ld x4 r0_4 := ⟨_, rfl⟩
    have hr4 : View.readAt (Elt F) arg5.view (r0_4).toLoadRect f4 = w6 := by rw [hw6, ← hf4]; rfl
    sl_exec
    sl_step
    iapply Hk
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    iexists _; isplitr
    swap; · iexact H5
    ipureintro
    rename_i g fin
    have hg0 := hL1.eq
    rw [hf0, chensAt_eq] at hg0
    have hfin0 := hL2.eq
    rw [roundsAt_eq] at hfin0
    have hT1 : k0_t1_loop.trips = Scf.trips k0_t1_loop.lb k0_t1_loop.ub k0_t1_loop.st := rfl
    rw [← hT1] at hg0
    have hT2 : k0_t2_loop.trips = Scf.trips k0_t2_loop.lb k0_t2_loop.ub k0_t2_loop.st := rfl
    rw [← hT2] at hfin0
    have hg1 : chens (F := F) x0 (?start v) k0_t1_loop.trips = g := by exact hg0.symm
    have hfin1 : rounds (F := F) lanes g k0_t2_loop.trips = fin := by exact hfin0.symm
    rw [View.read_writes_eq_canon _ _ _ (cover0_5 _)]
    unfold scanned
    rw [← hv, hg1, hfin1, ← hw1, ← hw2, ← hw3, ← hw4, ← hw5, ← hw6]

end Cert.KernelIdeal.Body

end
-- ==== Proof.KernelIdeal.Run.lean ====
module

public import proofs.«01_k».proof.Proof.KernelIdeal.Body
public import Idealize.ShloMosaic.Lib.Claim

/-! The pipeline's run: the body at every grid point, the launch, and the frame. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Scan Cert.KernelIdeal.Body

variable {F : FTy → Type} [FloatOps F] [Named F]
variable (m : (ℓ : Loc nD τ sig) → Buf (Elt F) ℓ) (ρ : Dev nD → PrngReg)

/-- What the body leaves in the result's block, from the blocks it is given. -/
abbrev out0_5 (x0 : Vec F S1x16x8x128 .f32) (x1 : Vec F S4680x256 .f32) (x2 : Vec F S1x256 .f32) (x3 : Vec F S256x1 .f32) (x4 : Vec F S1x1 .f32) : Vec F S1x1x1 .f32 :=
  View.canon [⟨r0_5, (body (F := F)).1.2 (scanned (body (F := F)).1.1 x0) (View.ld x1 r0_1a) (View.ld x1 r0_1b) (View.ld x1 r0_1c) (View.ld x2 r0_2) (View.ld x3 r0_3) (View.ld x4 r0_4)⟩]

/-- The data of the pipeline: after the body every input block is as it was and the result's is the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- What each window holds before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body starts from at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it ends with. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply ((body (F := F)).2 c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table at a grid point. -/
theorem defs₀_row (t : Fin cfg0.N) :
    defs₀ (F := F) .tc cfg0.body (cfg0.bodyArgs t (cfg0.slots t)) = bodyAt0 t := by
  unfold defs₀; rw [Defs.onTc_tc]

/-- The body, as the pipeline asks it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run ends with the pipeline's arrays at what the data says. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.ReferenceIdeal.Frame.lean ====
module

public import proofs.«01_k».proof.Proof.Gen.ReferenceIdeal.Run
public import Idealize.ShloMosaic.Lib.Quiescent

/-! The reference's frame: its run, and that it has no semaphore to leave raised. -/

@[expose] public section

noncomputable section

namespace Cert.ReferenceIdeal.Frame

open Idealize.ShloMosaic Idealize.SL.Sem

variable {F : FTy → Type} [FloatOps F]
variable (m : (ℓ : Loc nD τ sig) → Buf (Elt F) ℓ) (ρ : Dev nD → PrngReg)

/-- Every run ends, the arguments unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (Value.run m ρ)

end Cert.ReferenceIdeal.Frame

end
-- ==== Proof.Preserves.lean ====
module

public import proofs.«01_k».proof.Defs

/-! The named constant is the one the kernel writes, one third. -/

@[expose] public section

noncomputable section

namespace Cert.Preserves

open Idealize.ShloMosaic

/-- The word the kernel writes for one third is the rounding of the named value. -/
theorem third : IdealRules.named_const.Statement Cert.KernelIdeal.κ "third" .f32 0x3EAAAAAB#32 ((1 / 3 : ℝ) : EReal) :=
  IdealRules.named_const.statement Cert.KernelIdeal.κ "third" .f32 0x3EAAAAAB#32 ((1 / 3 : ℝ) : EReal) rfl

end Cert.Preserves

end
-- ==== Proof.Algebra.lean ====
module

public import Mathlib.Data.Real.Basic
public import Mathlib.Tactic.Ring
public import Mathlib.Tactic.FieldSimp

/-! The tensor algebra over eight letters, cut after level four, its unit left out. -/

@[expose] public section

noncomputable section

namespace Cert.Algebra

/-- An element without its unit part: its four levels. -/
@[ext] structure TA where
  l1 : Fin 8 → ℝ
  l2 : Fin 8 → Fin 8 → ℝ
  l3 : Fin 8 → Fin 8 → Fin 8 → ℝ
  l4 : Fin 8 → Fin 8 → Fin 8 → Fin 8 → ℝ

namespace TA

/-- Nothing but the unit. -/
def zero : TA := ⟨fun _ => 0, fun _ _ => 0, fun _ _ _ => 0, fun _ _ _ _ => 0⟩

/-- `(1 + x)(1 + y) - 1`. -/
def mul (x y : TA) : TA where
  l1 a := x.l1 a + y.l1 a
  l2 a b := x.l2 a b + y.l2 a b + x.l1 a * y.l1 b
  l3 a b c := x.l3 a b c + y.l3 a b c + x.l1 a * y.l2 b c + x.l2 a b * y.l1 c
  l4 a b c d := x.l4 a b c d + y.l4 a b c d + x.l1 a * y.l3 b c d + x.l2 a b * y.l2 c d + x.l3 a b c * y.l1 d

/-- The exponential of a letter combination, without its unit. -/
def expOne (d : Fin 8 → ℝ) : TA where
  l1 a := d a
  l2 a b := d a * d b / 2
  l3 a b c := d a * d b * d c / 6
  l4 a b c e := d a * d b * d c * d e / 24

/-- `exp x - 1`. -/
def exp (x : TA) : TA where
  l1 a := x.l1 a
  l2 a b := x.l2 a b + x.l1 a * x.l1 b / 2
  l3 a b c := x.l3 a b c + (x.l1 a * x.l2 b c + x.l2 a b * x.l1 c) / 2 + x.l1 a * (x.l1 b * x.l1 c) / 6
  l4 a b c d := x.l4 a b c d + (x.l1 a * x.l3 b c d + x.l2 a b * x.l2 c d + x.l3 a b c * x.l1 d) / 2
    + (x.l1 a * (x.l1 b * x.l2 c d + x.l2 b c * x.l1 d) + x.l2 a b * (x.l1 c * x.l1 d)) / 6
    + x.l1 a * (x.l1 b * (x.l1 c * x.l1 d)) / 24

/-- `log (1 + x)`. -/
def log (x : TA) : TA where
  l1 a := x.l1 a
  l2 a b := x.l2 a b - x.l1 a * x.l1 b / 2
  l3 a b c := x.l3 a b c - (x.l1 a * x.l2 b c + x.l2 a b * x.l1 c) / 2 + x.l1 a * (x.l1 b * x.l1 c) / 3
  l4 a b c d := x.l4 a b c d - (x.l1 a * x.l3 b c d + x.l2 a b * x.l2 c d + x.l3 a b c * x.l1 d) / 2
    + (x.l1 a * (x.l1 b * x.l2 c d + x.l2 b c * x.l1 d) + x.l2 a b * (x.l1 c * x.l1 d)) / 3
    - x.l1 a * (x.l1 b * (x.l1 c * x.l1 d)) / 4

theorem exp_log (x : TA) : exp (log x) = x := by
  ext <;> simp only [exp, log] <;> ring

theorem log_zero : log zero = zero := by
  ext <;> simp [log, zero]

theorem exp_zero : exp zero = zero := by
  ext <;> simp [exp, zero]

/-- Chunk `n - d`'s element at chunk `n`, the unit where there is none. -/
def shift (d : ℕ) (G : Fin 128 → TA) (n : Fin 128) : TA :=
  if h : d ≤ n.val then G ⟨n.val - d, by omega⟩ else zero

/-- The product of the elements of a chunk's increments. -/
def signature (d : Fin 16 → Fin 8 → ℝ) : ℕ → TA
  | 0 => zero
  | k + 1 => if h : k < 16 then mul (signature d k) (expOne (d ⟨k, h⟩)) else signature d k

/-- The running products after some rounds, the reach doubling at each. -/
def scan (G : Fin 128 → TA) : ℕ → Fin 128 → TA
  | 0 => G
  | k + 1 => fun n => mul (shift (2 ^ k) (scan G k) n) (scan G k n)

end TA

end Cert.Algebra

end
-- ==== Proof.ReferenceIdeal.Levels.lean ====
module

public import proofs.«01_k».proof.Proof.Gen.ReferenceIdeal
public import proofs.«01_k».proof.Proof.Algebra
public import Idealize.ShloMosaic.Lib.Pointwise
public import Idealize.ShloMosaic.Lib.WordCmp
public import Idealize.ShloMosaic.Lib.DynamicIndex
public import Idealize.ShloMosaic.Lib.ValueIdxRank6
public import Idealize.ShloMosaic.Lib.Pipeline.Value

/-! Arrays of real numbers at the four levels: which reals each of the reference's operations makes of given ones. -/

@[expose] public section

set_option maxRecDepth 16384

noncomputable section

namespace Cert.ReferenceIdeal.Levels

open Idealize.ShloMosaic Cert.ReferenceIdeal Cert.ReferenceIdeal.Gen Cert.Algebra

abbrev A1 := FVec Ideal S8x128x8 .f32
abbrev A2 := FVec Ideal S8x128x8x8 .f32
abbrev A3 := FVec Ideal S8x128x8x8x8 .f32
abbrev A4 := FVec Ideal S8x128x8x8x8x8 .f32
abbrev R1 := Fin 8 → Fin 128 → Fin 8 → ℝ
abbrev R2 := Fin 8 → Fin 128 → Fin 8 → Fin 8 → ℝ
abbrev R3 := Fin 8 → Fin 128 → Fin 8 → Fin 8 → Fin 8 → ℝ
abbrev R4 := Fin 8 → Fin 128 → Fin 8 → Fin 8 → Fin 8 → Fin 8 → ℝ

/-- The array holds these reals. -/
def L1 (v : A1) (f : R1) : Prop := ∀ b n i, v (ix3 b n i) = ((f b n i : ℝ) : EReal)
def L2 (v : A2) (f : R2) : Prop := ∀ b n i j, v (ix4 b n i j) = ((f b n i j : ℝ) : EReal)
def L3 (v : A3) (f : R3) : Prop := ∀ b n i j k, v (ix5 b n i j k) = ((f b n i j k : ℝ) : EReal)
def L4 (v : A4) (f : R4) : Prop := ∀ b n i j k l, v (ix6 b n i j k l) = ((f b n i j k l : ℝ) : EReal)

/-- The word of a divisor holds this real. -/
theorem two : Ideal.ofBits FTy.f32 0x40000000#32 = ((2 : ℝ) : EReal) := by
  simp [Ideal.ofBits, Ideal.ieee, -EReal.coe_mul]; norm_num
theorem three : Ideal.ofBits FTy.f32 0x40400000#32 = ((3 : ℝ) : EReal) := by
  simp [Ideal.ofBits, Ideal.ieee, -EReal.coe_mul]; norm_num
theorem four : Ideal.ofBits FTy.f32 0x40800000#32 = ((4 : ℝ) : EReal) := by
  simp [Ideal.ofBits, Ideal.ieee, -EReal.coe_mul]; norm_num
theorem six : Ideal.ofBits FTy.f32 0x40C00000#32 = ((6 : ℝ) : EReal) := by
  simp [Ideal.ofBits, Ideal.ieee, -EReal.coe_mul]; norm_num
theorem twentyfour : Ideal.ofBits FTy.f32 0x41C00000#32 = ((24 : ℝ) : EReal) := by
  simp [Ideal.ofBits, Ideal.ieee, -EReal.coe_mul]; norm_num
theorem div_real (x : ℝ) {y : ℝ} (h : y ≠ 0) : Ideal.div (x : EReal) (y : EReal) = ((x / y : ℝ) : EReal) := by
  rw [Ideal.div_coe h]; push_cast [div_eq_mul_inv]; simp [div_eq_mul_inv]

section
variable {v w : A1} {f g : R1}
theorem L1.congr (h : L1 v f) (e : ∀ b n i, f b n i = g b n i) : L1 v g := fun b n i => by rw [h, e]
theorem L1.add (hv : L1 v f) (hw : L1 w g) : L1 (addf v w) (fun b n i => f b n i + g b n i) := fun b n i => by
  pointwise; rw [hv, hw]; norm_cast
theorem L1.sub (hv : L1 v f) (hw : L1 w g) : L1 (subf v w) (fun b n i => f b n i - g b n i) := fun b n i => by
  pointwise; rw [hv, hw]; norm_cast
theorem L1.div (hv : L1 v f) {c : BitVec 32} {y : ℝ} (hc : Ideal.ofBits FTy.f32 c = (y : EReal)) (hy : y ≠ 0) :
    L1 (Host.divf v (broadcastInDim S8x128x8 ![] bcast_S_S8x128x8 (constant S_ .f32 c))) (fun b n i => f b n i / y) := fun b n i => by
  pointwise; rw [hv, hc]; exact div_real _ hy
theorem L1.none : L1 (broadcastInDim S8x128x8 ![] bcast_S_S8x128x8 (constant S_ .f32 0x00000000#32)) (fun _ _ _ => 0) := fun b n i => by
  pointwise; simp
end

section
variable {v w : A2} {f g : R2}
theorem L2.congr (h : L2 v f) (e : ∀ b n i j, f b n i j = g b n i j) : L2 v g := fun b n i j => by rw [h, e]
theorem L2.add (hv : L2 v f) (hw : L2 w g) : L2 (addf v w) (fun b n i j => f b n i j + g b n i j) := fun b n i j => by
  pointwise; rw [hv, hw]; norm_cast
theorem L2.sub (hv : L2 v f) (hw : L2 w g) : L2 (subf v w) (fun b n i j => f b n i j - g b n i j) := fun b n i j => by
  pointwise; rw [hv, hw]; norm_cast
theorem L2.div (hv : L2 v f) {c : BitVec 32} {y : ℝ} (hc : Ideal.ofBits FTy.f32 c = (y : EReal)) (hy : y ≠ 0) :
    L2 (Host.divf v (broadcastInDim S8x128x8x8 ![] bcast_S_S8x128x8x8 (constant S_ .f32 c))) (fun b n i j => f b n i j / y) := fun b n i j => by
  pointwise; rw [hv, hc]; exact div_real _ hy
theorem L2.none : L2 (broadcastInDim S8x128x8x8 ![] bcast_S_S8x128x8x8 (constant S_ .f32 0x00000000#32)) (fun _ _ _ _ => 0) := fun b n i j => by
  pointwise; simp
end

section
variable {v w : A3} {f g : R3}
theorem L3.congr (h : L3 v f) (e : ∀ b n i j k, f b n i j k = g b n i j k) : L3 v g := fun b n i j k => by rw [h, e]
theorem L3.add (hv : L3 v f) (hw : L3 w g) : L3 (addf v w) (fun b n i j k => f b n i j k + g b n i j k) := fun b n i j k => by
  pointwise; rw [hv, hw]; norm_cast
theorem L3.sub (hv : L3 v f) (hw : L3 w g) : L3 (subf v w) (fun b n i j k => f b n i j k - g b n i j k) := fun b n i j k => by
  pointwise; rw [hv, hw]; norm_cast
theorem L3.div (hv : L3 v f) {c : BitVec 32} {y : ℝ} (hc : Ideal.ofBits FTy.f32 c = (y : EReal)) (hy : y ≠ 0) :
    L3 (Host.divf v (broadcastInDim S8x128x8x8x8 ![] bcast_S_S8x128x8x8x8 (constant S_ .f32 c))) (fun b n i j k => f b n i j k / y) := fun b n i j k => by
  pointwise; rw [hv, hc]; exact div_real _ hy
theorem L3.none : L3 (broadcastInDim S8x128x8x8x8 ![] bcast_S_S8x128x8x8x8 (constant S_ .f32 0x00000000#32)) (fun _ _ _ _ _ => 0) := fun b n i j k => by
  pointwise; simp
end

section
variable {v w : A4} {f g : R4}
theorem L4.congr (h : L4 v f) (e : ∀ b n i j k l, f b n i j k l = g b n i j k l) : L4 v g := fun b n i j k l => by rw [h, e]
theorem L4.add (hv : L4 v f) (hw : L4 w g) : L4 (addf v w) (fun b n i j k l => f b n i j k l + g b n i j k l) := fun b n i j k l => by
  pointwise; rw [hv, hw]; norm_cast
theorem L4.sub (hv : L4 v f) (hw : L4 w g) : L4 (subf v w) (fun b n i j k l => f b n i j k l - g b n i j k l) := fun b n i j k l => by
  pointwise; rw [hv, hw]; norm_cast
theorem L4.div (hv : L4 v f) {c : BitVec 32} {y : ℝ} (hc : Ideal.ofBits FTy.f32 c = (y : EReal)) (hy : y ≠ 0) :
    L4 (Host.divf v (broadcastInDim S8x128x8x8x8x8 ![] bcast_S_S8x128x8x8x8x8 (constant S_ .f32 c))) (fun b n i j k l => f b n i j k l / y) := fun b n i j k l => by
  pointwise; rw [hv, hc]; exact div_real _ hy
theorem L4.none : L4 (broadcastInDim S8x128x8x8x8x8 ![] bcast_S_S8x128x8x8x8x8 (constant S_ .f32 0x00000000#32)) (fun _ _ _ _ _ _ => 0) := fun b n i j k l => by
  pointwise; simp
end

/-- Letters of level 1 before letters of level 1. -/
theorem outer11 {v : A1} {w : A1} {f : R1} {g : R1} (hv : L1 v f) (hw : L1 w g) :
    L2 (mulf (broadcastInDim S8x128x8x8 ![0, 1, 2, 3] bcast_S8x128x8x1_S8x128x8x8_0_1_2_3 (broadcastInDim S8x128x8x1 ![0, 1, 2] bcast_S8x128x8_S8x128x8x1_0_1_2 v))
      (broadcastInDim S8x128x8x8 ![0, 1, 2, 3] bcast_S8x128x1x8_S8x128x8x8_0_1_2_3 (broadcastInDim S8x128x1x8 ![0, 1, 3] bcast_S8x128x8_S8x128x1x8_0_1_3 w)))
      (fun b n i j => f b n i * g b n j) := fun b n i j => by
  pointwise; rw [hv, hw]; norm_cast

/-- Letters of level 1 before letters of level 2. -/
theorem outer12 {v : A1} {w : A2} {f : R1} {g : R2} (hv : L1 v f) (hw : L2 w g) :
    L3 (mulf (broadcastInDim S8x128x8x8x8 ![0, 1, 2, 3, 4] bcast_S8x128x8x1x1_S8x128x8x8x8_0_1_2_3_4 (broadcastInDim S8x128x8x1x1 ![0, 1, 2] bcast_S8x128x8_S8x128x8x1x1_0_1_2 v))
      (broadcastInDim S8x128x8x8x8 ![0, 1, 2, 3, 4] bcast_S8x128x1x8x8_S8x128x8x8x8_0_1_2_3_4 (broadcastInDim S8x128x1x8x8 ![0, 1, 3, 4] bcast_S8x128x8x8_S8x128x1x8x8_0_1_3_4 w)))
      (fun b n i j k => f b n i * g b n j k) := fun b n i j k => by
  pointwise; rw [hv, hw]; norm_cast

/-- Letters of level 2 before letters of level 1. -/
theorem outer21 {v : A2} {w : A1} {f : R2} {g : R1} (hv : L2 v f) (hw : L1 w g) :
    L3 (mulf (broadcastInDim S8x128x8x8x8 ![0, 1, 2, 3, 4] bcast_S8x128x8x8x1_S8x128x8x8x8_0_1_2_3_4 (broadcastInDim S8x128x8x8x1 ![0, 1, 2, 3] bcast_S8x128x8x8_S8x128x8x8x1_0_1_2_3 v))
      (broadcastInDim S8x128x8x8x8 ![0, 1, 2, 3, 4] bcast_S8x128x1x1x8_S8x128x8x8x8_0_1_2_3_4 (broadcastInDim S8x128x1x1x8 ![0, 1, 4] bcast_S8x128x8_S8x128x1x1x8_0_1_4 w)))
      (fun b n i j k => f b n i j * g b n k) := fun b n i j k => by
  pointwise; rw [hv, hw]; norm_cast

/-- Letters of level 1 before letters of level 3. -/
theorem outer13 {v : A1} {w : A3} {f : R1} {g : R3} (hv : L1 v f) (hw : L3 w g) :
    L4 (mulf (broadcastInDim S8x128x8x8x8x8 ![0, 1, 2, 3, 4, 5] bcast_S8x128x8x1x1x1_S8x128x8x8x8x8_0_1_2_3_4_5 (broadcastInDim S8x128x8x1x1x1 ![0, 1, 2] bcast_S8x128x8_S8x128x8x1x1x1_0_1_2 v))
      (broadcastInDim S8x128x8x8x8x8 ![0, 1, 2, 3, 4, 5] bcast_S8x128x1x8x8x8_S8x128x8x8x8x8_0_1_2_3_4_5 (broadcastInDim S8x128x1x8x8x8 ![0, 1, 3, 4, 5] bcast_S8x128x8x8x8_S8x128x1x8x8x8_0_1_3_4_5 w)))
      (fun b n i j k l => f b n i * g b n j k l) := fun b n i j k l => by
  pointwise; rw [hv, hw]; norm_cast

/-- Letters of level 2 before letters of level 2. -/
theorem outer22 {v : A2} {w : A2} {f : R2} {g : R2} (hv : L2 v f) (hw : L2 w g) :
    L4 (mulf (broadcastInDim S8x128x8x8x8x8 ![0, 1, 2, 3, 4, 5] bcast_S8x128x8x8x1x1_S8x128x8x8x8x8_0_1_2_3_4_5 (broadcastInDim S8x128x8x8x1x1 ![0, 1, 2, 3] bcast_S8x128x8x8_S8x128x8x8x1x1_0_1_2_3 v))
      (broadcastInDim S8x128x8x8x8x8 ![0, 1, 2, 3, 4, 5] bcast_S8x128x1x1x8x8_S8x128x8x8x8x8_0_1_2_3_4_5 (broadcastInDim S8x128x1x1x8x8 ![0, 1, 4, 5] bcast_S8x128x8x8_S8x128x1x1x8x8_0_1_4_5 w)))
      (fun b n i j k l => f b n i j * g b n k l) := fun b n i j k l => by
  pointwise; rw [hv, hw]; norm_cast

/-- Letters of level 3 before letters of level 1. -/
theorem outer31 {v : A3} {w : A1} {f : R3} {g : R1} (hv : L3 v f) (hw : L1 w g) :
    L4 (mulf (broadcastInDim S8x128x8x8x8x8 ![0, 1, 2, 3, 4, 5] bcast_S8x128x8x8x8x1_S8x128x8x8x8x8_0_1_2_3_4_5 (broadcastInDim S8x128x8x8x8x1 ![0, 1, 2, 3, 4] bcast_S8x128x8x8x8_S8x128x8x8x8x1_0_1_2_3_4 v))
      (broadcastInDim S8x128x8x8x8x8 ![0, 1, 2, 3, 4, 5] bcast_S8x128x1x1x1x8_S8x128x8x8x8x8_0_1_2_3_4_5 (broadcastInDim S8x128x1x1x1x8 ![0, 1, 5] bcast_S8x128x8_S8x128x1x1x1x8_0_1_5 w)))
      (fun b n i j k l => f b n i j k * g b n l) := fun b n i j k l => by
  pointwise; rw [hv, hw]; norm_cast

/-- The first chunk of a delayed array, as a word read signed. -/
theorem start_at (s : IVec S_ 32) {d : ℕ} (hd : d ≤ 128) (h : s (Shape.Idx.first h_S_) = BitVec.ofNat 32 (128 - d)) :
    ((select (cmpi .slt s (constantI S_ 32 0#32)) (addi s (constantI S_ 32 256#32)) s) (Shape.Idx.first h_S_)).toInt = ((128 - d : ℕ) : Int) := by
  have e : (s (Shape.Idx.first h_S_)).toInt = ((128 - d : ℕ) : Int) := by rw [h]; exact toInt_ofNat_of_lt (by omega)
  rw [select_slt_zero_of_nonneg _ _ _ _ (by rw [e]; omega), e]

theorem L1.delay {z v : A1} {f : R1} (hz : L1 z fun _ _ _ => 0) (hv : L1 v f) (s : IVec S_ 32) {d : ℕ} (hd : d ≤ 128)
    (hs : s (Shape.Idx.first h_S_) = BitVec.ofNat 32 (128 - d)) :
    L1 (Host.dynamicSlice S8x128x8 (concatenate S8x256x8 1 [⟨S8x128x8, z⟩, ⟨S8x128x8, v⟩] concatenates_S8x128x8_S8x128x8_S8x256x8_d1)
      (fun k => (((![constantI S_ 32 0#32, select (cmpi .slt s (constantI S_ 32 0#32)) (addi s (constantI S_ 32 256#32)) s, constantI S_ 32 0#32] : Fin 3 → (⟨S_, .i32⟩ : BufTy).Contents (Elt Ideal))) k (Shape.Idx.first h_S_)).toInt) sliceFits_S8x256x8_S8x128x8)
      (fun b n i => if h : d ≤ n.val then f b ⟨n.val - d, by omega⟩ i else 0) := fun b n i => by
  have ho : S8x256x8.Slices ![0, 128 - d, 0] S8x128x8 := ⟨rfl, by intro k; fin_cases k <;> simp <;> omega⟩
  rw [Host.dynamicSlice_eq_extractStridedSlice _ _ _ ![0, 128 - d, 0] _ ho (by
    intro k; fin_cases k
    · rfl
    · exact start_at s hd hs
    all_goals rfl)]
  beta_reduce
  by_cases h : d ≤ n.val
  · rw [dif_pos h, ← hv]
    pointwise
    rw [dif_neg (by omega)]
    exact congrArg (fun t => v (ix3 b t i)) (Fin.ext (by show 128 - d + n.val - 128 = n.val - d; omega))
  · rw [dif_neg h]
    pointwise
    rw [dif_pos (by omega)]
    exact hz _ _ _

theorem L2.delay {z v : A2} {f : R2} (hz : L2 z fun _ _ _ _ => 0) (hv : L2 v f) (s : IVec S_ 32) {d : ℕ} (hd : d ≤ 128)
    (hs : s (Shape.Idx.first h_S_) = BitVec.ofNat 32 (128 - d)) :
    L2 (Host.dynamicSlice S8x128x8x8 (concatenate S8x256x8x8 1 [⟨S8x128x8x8, z⟩, ⟨S8x128x8x8, v⟩] concatenates_S8x128x8x8_S8x128x8x8_S8x256x8x8_d1)
      (fun k => (((![constantI S_ 32 0#32, select (cmpi .slt s (constantI S_ 32 0#32)) (addi s (constantI S_ 32 256#32)) s, constantI S_ 32 0#32, constantI S_ 32 0#32] : Fin 4 → (⟨S_, .i32⟩ : BufTy).Contents (Elt Ideal))) k (Shape.Idx.first h_S_)).toInt) sliceFits_S8x256x8x8_S8x128x8x8)
      (fun b n i j => if h : d ≤ n.val then f b ⟨n.val - d, by omega⟩ i j else 0) := fun b n i j => by
  have ho : S8x256x8x8.Slices ![0, 128 - d, 0, 0] S8x128x8x8 := ⟨rfl, by intro k; fin_cases k <;> simp <;> omega⟩
  rw [Host.dynamicSlice_eq_extractStridedSlice _ _ _ ![0, 128 - d, 0, 0] _ ho (by
    intro k; fin_cases k
    · rfl
    · exact start_at s hd hs
    all_goals rfl)]
  beta_reduce
  by_cases h : d ≤ n.val
  · rw [dif_pos h, ← hv]
    pointwise
    rw [dif_neg (by omega)]
    exact congrArg (fun t => v (ix4 b t i j)) (Fin.ext (by show 128 - d + n.val - 128 = n.val - d; omega))
  · rw [dif_neg h]
    pointwise
    rw [dif_pos (by omega)]
    exact hz _ _ _ _

theorem L3.delay {z v : A3} {f : R3} (hz : L3 z fun _ _ _ _ _ => 0) (hv : L3 v f) (s : IVec S_ 32) {d : ℕ} (hd : d ≤ 128)
    (hs : s (Shape.Idx.first h_S_) = BitVec.ofNat 32 (128 - d)) :
    L3 (Host.dynamicSlice S8x128x8x8x8 (concatenate S8x256x8x8x8 1 [⟨S8x128x8x8x8, z⟩, ⟨S8x128x8x8x8, v⟩] concatenates_S8x128x8x8x8_S8x128x8x8x8_S8x256x8x8x8_d1)
      (fun k => (((![constantI S_ 32 0#32, select (cmpi .slt s (constantI S_ 32 0#32)) (addi s (constantI S_ 32 256#32)) s, constantI S_ 32 0#32, constantI S_ 32 0#32, constantI S_ 32 0#32] : Fin 5 → (⟨S_, .i32⟩ : BufTy).Contents (Elt Ideal))) k (Shape.Idx.first h_S_)).toInt) sliceFits_S8x256x8x8x8_S8x128x8x8x8)
      (fun b n i j k => if h : d ≤ n.val then f b ⟨n.val - d, by omega⟩ i j k else 0) := fun b n i j k => by
  have ho : S8x256x8x8x8.Slices ![0, 128 - d, 0, 0, 0] S8x128x8x8x8 := ⟨rfl, by intro k; fin_cases k <;> simp <;> omega⟩
  rw [Host.dynamicSlice_eq_extractStridedSlice _ _ _ ![0, 128 - d, 0, 0, 0] _ ho (by
    intro k; fin_cases k
    · rfl
    · exact start_at s hd hs
    all_goals rfl)]
  beta_reduce
  by_cases h : d ≤ n.val
  · rw [dif_pos h, ← hv]
    pointwise
    rw [dif_neg (by omega)]
    exact congrArg (fun t => v (ix5 b t i j k)) (Fin.ext (by show 128 - d + n.val - 128 = n.val - d; omega))
  · rw [dif_neg h]
    pointwise
    rw [dif_pos (by omega)]
    exact hz _ _ _ _ _

theorem L4.delay {z v : A4} {f : R4} (hz : L4 z fun _ _ _ _ _ _ => 0) (hv : L4 v f) (s : IVec S_ 32) {d : ℕ} (hd : d ≤ 128)
    (hs : s (Shape.Idx.first h_S_) = BitVec.ofNat 32 (128 - d)) :
    L4 (Host.dynamicSlice S8x128x8x8x8x8 (concatenate S8x256x8x8x8x8 1 [⟨S8x128x8x8x8x8, z⟩, ⟨S8x128x8x8x8x8, v⟩] concatenates_S8x128x8x8x8x8_S8x128x8x8x8x8_S8x256x8x8x8x8_d1)
      (fun k => (((![constantI S_ 32 0#32, select (cmpi .slt s (constantI S_ 32 0#32)) (addi s (constantI S_ 32 256#32)) s, constantI S_ 32 0#32, constantI S_ 32 0#32, constantI S_ 32 0#32, constantI S_ 32 0#32] : Fin 6 → (⟨S_, .i32⟩ : BufTy).Contents (Elt Ideal))) k (Shape.Idx.first h_S_)).toInt) sliceFits_S8x256x8x8x8x8_S8x128x8x8x8x8)
      (fun b n i j k l => if h : d ≤ n.val then f b ⟨n.val - d, by omega⟩ i j k l else 0) := fun b n i j k l => by
  have ho : S8x256x8x8x8x8.Slices ![0, 128 - d, 0, 0, 0, 0] S8x128x8x8x8x8 := ⟨rfl, by intro k; fin_cases k <;> simp <;> omega⟩
  rw [Host.dynamicSlice_eq_extractStridedSlice _ _ _ ![0, 128 - d, 0, 0, 0, 0] _ ho (by
    intro k; fin_cases k
    · rfl
    · exact start_at s hd hs
    all_goals rfl)]
  beta_reduce
  by_cases h : d ≤ n.val
  · rw [dif_pos h, ← hv]
    pointwise
    rw [dif_neg (by omega)]
    exact congrArg (fun t => v (ix6 b t i j k l)) (Fin.ext (by show 128 - d + n.val - 128 = n.val - d; omega))
  · rw [dif_neg h]
    pointwise
    rw [dif_pos (by omega)]
    exact hz _ _ _ _ _ _

end Cert.ReferenceIdeal.Levels

end
-- ==== Proof.ReferenceIdeal.Increments.lean ====
module

public import proofs.«01_k».proof.Proof.ReferenceIdeal.Levels

/-! The increments of the path, of real numbers when the path's are. -/

@[expose] public section

set_option maxRecDepth 16384

noncomputable section

namespace Cert.ReferenceIdeal.Increments

open Idealize.ShloMosaic Cert.ReferenceIdeal Cert.ReferenceIdeal.Gen Cert.ReferenceIdeal.Levels

/-- The times' fractions but the last. -/
@[reducible] def fractions : FVec Ideal S2047 .f32 :=
  Host.divf (sitofp .f32 (iotaInDim S2047 32 0)) (broadcastInDim S2047 ![] bcast_S_S2047 (constant S_ .f32 0x44FFE000#32))
/-- The times, from their ends. -/
@[reducible] def times (lo hi : FVec Ideal S_ .f32) : FVec Ideal S2048 .f32 :=
  concatenate S2048 0 [⟨S2047,
    addf (mulf (broadcastInDim S2047 ![0] bcast_S1_S2047_0 (shapeCast S1 lo shapeCasts_S_S1))
        (subf (broadcastInDim S2047 ![] bcast_S_S2047 (constant S_ .f32 0x3F800000#32)) fractions))
      (mulf (broadcastInDim S2047 ![0] bcast_S1_S2047_0 (shapeCast S1 hi shapeCasts_S_S1)) fractions)⟩,
    ⟨S1, broadcastInDim S1 ![] bcast_S_S1 hi⟩] concatenates_S2047_S1_S2048_d0
/-- The path, the times its last letter. -/
@[reducible] def path (x : FVec Ideal S8x2048x7 .f32) (t : FVec Ideal S2048 .f32) : FVec Ideal S8x2048x8 .f32 :=
  concatenate S8x2048x8 2 [⟨S8x2048x7, x⟩,
    ⟨S8x2048x1, broadcastInDim S8x2048x1 ![0, 1, 2] bcast_S1x2048x1_S8x2048x1_0_1_2 (broadcastInDim S1x2048x1 ![1] bcast_S2048_S1x2048x1_1 t)⟩]
    concatenates_S8x2048x7_S8x2048x1_S8x2048x8_d2
/-- The path with its start put before it. -/
@[reducible] def started (z : FVec Ideal S8x1x8 .f32) (p : FVec Ideal S8x2048x8 .f32) : FVec Ideal S8x2049x8 .f32 :=
  concatenate S8x2049x8 1 [⟨S8x1x8, z⟩, ⟨S8x2048x8, p⟩] concatenates_S8x1x8_S8x2048x8_S8x2049x8_d1
/-- The increments. -/
@[reducible] def diff (u : FVec Ideal S8x2049x8 .f32) : FVec Ideal S8x2048x8 .f32 :=
  subf (extractStridedSlice S8x2048x8 ![0, 1, 0] u slices_S8x2049x8_S8x2048x8_0_1_0)
    (extractStridedSlice S8x2048x8 ![0, 0, 0] u slices_S8x2049x8_S8x2048x8_0_0_0)
/-- All from the launch's array. -/
@[reducible] def increments (x : FVec Ideal S8x2048x7 .f32) : FVec Ideal S8x2048x8 .f32 :=
  diff (started (broadcastInDim S8x1x8 ![] bcast_S_S8x1x8 (constant S_ .f32 0x00000000#32))
    (path x (times (constant S_ .f32 0x00000000#32) (constant S_ .f32 0x3F800000#32))))

/-- Real arrays: every value is a real. -/
def Real {s : Shape} (v : FVec Ideal s .f32) : Prop := ∀ i, v i = ((v i).toReal : EReal)

theorem unit_word : Ideal.ofBits FTy.f32 0x3F800000#32 = ((1 : ℝ) : EReal) := by
  simp [Ideal.ofBits, Ideal.ieee, -EReal.coe_mul]; norm_num
theorem null_word : Ideal.ofBits FTy.f32 0x00000000#32 = ((0 : ℝ) : EReal) := by
  simp [Ideal.ofBits, Ideal.ieee]
theorem steps_word : Ideal.ofBits FTy.f32 0x44FFE000#32 = ((2047 : ℝ) : EReal) := by
  simp [Ideal.ofBits, Ideal.ieee, -EReal.coe_mul]; norm_num

theorem fractions_real : Real fractions := by
  intro i
  have e : fractions i = Ideal.div ((((BitVec.ofNat 32 (i 0).val).toInt : ℤ) : ℝ) : EReal) ((2047 : ℝ) : EReal) := by
    rw [← steps_word]; rfl
  rw [e, div_real _ (by norm_num), EReal.toReal_coe]

section
variable {s t : Shape}
theorem Real.of_coe {v : FVec Ideal s .f32} {f : s.Idx → ℝ} (h : ∀ i, v i = (f i : EReal)) : Real v := fun i => by rw [h, EReal.toReal_coe]
theorem Real.cast {v : FVec Ideal s .f32} (hv : Real v) (h : s.ShapeCasts t) : Real (shapeCast t v h) := fun _ => hv _
theorem Real.bcast {v : FVec Ideal s .f32} (hv : Real v) {dims : Fin s.rank → Fin t.rank} (h : s.BroadcastsInDim t dims) :
    Real (broadcastInDim t dims h v) := fun _ => hv _
theorem Real.slice {v : FVec Ideal s .f32} (hv : Real v) {off : Fin s.rank → ℕ} (h : s.Slices off t) : Real (extractStridedSlice t off v h) := fun _ => hv _
theorem Real.const {w : BitVec 32} {r : ℝ} (h : Ideal.ofBits FTy.f32 w = (r : EReal)) : Real (constant (F := Ideal) s .f32 w) := .of_coe fun _ => h
theorem Real.add {v w : FVec Ideal s .f32} (hv : Real v) (hw : Real w) : Real (addf v w) :=
  .of_coe (f := fun i => (v i).toReal + (w i).toReal) fun i => by rw [EReal.coe_add, ← hv, ← hw]; rfl
theorem Real.sub {v w : FVec Ideal s .f32} (hv : Real v) (hw : Real w) : Real (subf v w) :=
  .of_coe (f := fun i => (v i).toReal - (w i).toReal) fun i => by rw [EReal.coe_sub, ← hv, ← hw]; rfl
theorem Real.mul {v w : FVec Ideal s .f32} (hv : Real v) (hw : Real w) : Real (mulf v w) :=
  .of_coe (f := fun i => (v i).toReal * (w i).toReal) fun i => by rw [EReal.coe_mul, ← hv, ← hw]; rfl
theorem Real.concat {a : Fin t.rank} {s₁ s₂ : Shape} {v : FVec Ideal s₁ .f32} {w : FVec Ideal s₂ .f32} (hv : Real v) (hw : Real w)
    (h : Shape.Concatenates [s₁, s₂] t a) : Real (concatenate t a [⟨s₁, v⟩, ⟨s₂, w⟩] h) := by
  have all : ∀ p ∈ ([⟨s₁, v⟩, ⟨s₂, w⟩] : List ((s : Shape) × (s.Idx → EReal))), ∀ i, p.2 i = ((p.2 i).toReal : EReal) := by
    intro p hp
    rcases List.mem_pair.1 hp with rfl | rfl
    · exact hv
    · exact hw
  exact fun i => all _ (List.getElem_mem _) _
end

theorem times_real {lo hi : FVec Ideal S_ .f32} (hl : Real lo) (hh : Real hi) : Real (times lo hi) :=
  Real.concat ((((hl.cast _).bcast _).mul (((Real.const unit_word).bcast _).sub fractions_real)).add (((hh.cast _).bcast _).mul fractions_real))
    (hh.bcast _) _
theorem increments_real {x : FVec Ideal S8x2048x7 .f32} (h : Real x) : Real (increments x) := by
  have ht := times_real (Real.const null_word) (Real.const unit_word)
  have hp := Real.concat h ((ht.bcast bcast_S2048_S1x2048x1_1).bcast bcast_S1x2048x1_S8x2048x1_0_1_2) concatenates_S8x2048x7_S8x2048x1_S8x2048x8_d2
  have hs := Real.concat ((Real.const null_word).bcast bcast_S_S8x1x8) hp concatenates_S8x1x8_S8x2048x8_S8x2049x8_d1
  exact (hs.slice _).sub (hs.slice _)

end Cert.ReferenceIdeal.Increments

end
-- ==== Proof.Finite.lean ====
module

public import proofs.«01_k».proof.Proof.Gen.Pre_finite_x
public import proofs.«01_k».proof.Proof.ReferenceIdeal.Increments
public import Idealize.ShloMosaic.Lib.ReduceAll

/-! The precondition: every entry of the path is a real number. -/

@[expose] public section

noncomputable section

namespace Cert.Finite

open Idealize.ShloMosaic Cert.Pre_finite_x
open Cert.ReferenceIdeal.Increments (Real)

theorem top : Ideal.ofBits .f32 0x7F800000#32 = (⊤ : EReal) := by
  simp [Ideal.ofBits, Ideal.ieee]

theorem real {x : FVec Ideal S8x2048x7 .f32} {w1 : FVec Ideal S4680x256 .f32} {w2 : FVec Ideal S256 .f32} {w3 : FVec Ideal S256x1 .f32}
    {w4 : FVec Ideal S1 .f32} (h : fn x w1 w2 w3 w4 = fun _ => 1#1) : Real x := by
  intro i
  have hs : Subsingleton S_.Idx := ⟨fun a b => funext fun k => k.elim0⟩
  dsimp only [fn] at h
  have e := Host.reduce_andi_all _ _ _ _ (fun k => k.elim0) (congrFun h _) i
  have l : x i < ⊤ ∧ - x i < ⊤ := by
    have e' : BitVec.ofBool (decide (max (x i) (- x i) < Ideal.ofBits .f32 0x7F800000#32)) = 1#1 := e
    rw [top] at e'
    by_contra z
    rw [← max_lt_iff] at z
    rw [decide_eq_false z] at e'
    exact absurd e' (by decide)
  have ht : x i ≠ ⊤ := l.1.ne
  have hb : x i ≠ ⊥ := by
    intro z
    rw [z] at l
    simp at l
  exact (EReal.coe_toReal ht hb).symm

end Cert.Finite

end
-- ==== Proof.Prefix.lean ====
module

public import proofs.«01_k».proof.Proof.Algebra
public import Mathlib.Data.EReal.Operations
public import Mathlib.Algebra.BigOperators.Fin
public import Mathlib.Tactic.FinCases

/-! Sums of a chunk's first terms, and the tensor algebra's product of a chunk's increments through them. -/

@[expose] public section

noncomputable section

namespace Cert.Algebra

/-- The sum of the first `k` of sixteen. -/
def pre (g : Fin 16 → ℝ) : ℕ → ℝ
  | 0 => 0
  | k + 1 => if h : k < 16 then pre g k + g ⟨k, h⟩ else pre g k

theorem pre_succ (g : Fin 16 → ℝ) (t : Fin 16) : pre g (t.val + 1) = pre g t.val + g t := by
  simp [pre]

theorem pre_all (g : Fin 16 → ℝ) : ∑ t, g t = pre g 16 := by
  simp [Fin.sum_univ_succ, pre]; ring

/-- A window of sixteen that ends at `t`, nothing before the first. -/
theorem window_sum (g : Fin 16 → ℝ) (t : Fin 16) :
    ∑ n : Fin 16, (if h : 15 ≤ t.val + n.val then g ⟨t.val + n.val - 15, by omega⟩ else 0) = pre g (t.val + 1) := by
  fin_cases t <;> simp [Fin.sum_univ_succ, pre] <;> ring

/-- Adding up a list of all sixteen. -/
theorem fold_sum {N : ℕ} (hN : N = 16) (g : Fin N → EReal) :
    (List.finRange N).foldl (fun r n => r + g n) 0 = ∑ n : Fin 16, g (n.cast hN.symm) := by
  subst hN
  rw [Fin.sum_univ_def, List.sum_eq_foldl, List.foldl_map]
  rfl

theorem coe_sum16 (g : Fin 16 → ℝ) : ∑ n, ((g n : ℝ) : EReal) = ((∑ n, g n : ℝ) : EReal) := by
  simp [Fin.sum_univ_succ]

section
variable (d : Fin 16 → Fin 8 → ℝ)

/-- The terms added at increment `s`, level by level. -/
def g1 (s : Fin 16) (i : Fin 8) : ℝ := d s i
def s1 (k : ℕ) (i : Fin 8) : ℝ := pre (fun s => g1 d s i) k
def g2 (s : Fin 16) (i j : Fin 8) : ℝ := d s i * d s j / 2 + s1 d s.val i * d s j
def s2 (k : ℕ) (i j : Fin 8) : ℝ := pre (fun s => g2 d s i j) k
def g3 (s : Fin 16) (i j m : Fin 8) : ℝ :=
  d s i * d s j * d s m / 6 + s1 d s.val i * (d s j * d s m / 2) + s2 d s.val i j * d s m
def s3 (k : ℕ) (i j m : Fin 8) : ℝ := pre (fun s => g3 d s i j m) k
def g4 (s : Fin 16) (i j m l : Fin 8) : ℝ :=
  d s i * d s j * d s m * d s l / 24 + s1 d s.val i * (d s j * d s m * d s l / 6) + s2 d s.val i j * (d s m * d s l / 2)
    + s3 d s.val i j m * d s l
def s4 (k : ℕ) (i j m l : Fin 8) : ℝ := pre (fun s => g4 d s i j m l) k

theorem signature_sums : ∀ k, TA.signature d k = ⟨s1 d k, s2 d k, s3 d k, s4 d k⟩
  | 0 => rfl
  | k + 1 => by
    unfold TA.signature
    rw [signature_sums k]
    split
    · next h =>
      ext
      · simp [TA.mul, TA.expOne, s1, pre, h, g1]
      · simp [TA.mul, TA.expOne, s2, pre, h, g2]; ring
      · simp [TA.mul, TA.expOne, s3, pre, h, g3]; ring
      · simp [TA.mul, TA.expOne, s4, pre, h, g4]; ring
    · next h => ext <;> simp [s1, s2, s3, s4, pre, h]
end

end Cert.Algebra

end
-- ==== Proof.ReferenceIdeal.Steps.lean ====
module

public import proofs.«01_k».proof.Proof.ReferenceIdeal.Levels
public import proofs.«01_k».proof.Proof.Prefix
public import Idealize.ShloMosaic.Lib.Pointwise
public import Idealize.ShloMosaic.Lib.WordCmp
public import Idealize.ShloMosaic.Lib.DynamicIndex
public import Idealize.ShloMosaic.Lib.ValueIdxRank6
public import Idealize.ShloMosaic.Lib.Pipeline.Value

/-! Arrays of real numbers at the four levels, one for each increment of a chunk: which reals each of the reference's operations makes of given ones. -/

@[expose] public section

set_option maxRecDepth 16384

noncomputable section

namespace Cert.ReferenceIdeal.Steps

open Idealize.ShloMosaic Cert.ReferenceIdeal Cert.ReferenceIdeal.Levels Cert.ReferenceIdeal.Gen Cert.Algebra

abbrev B1 := FVec Ideal S8x128x16x8 .f32
abbrev B2 := FVec Ideal S8x128x16x8x8 .f32
abbrev B3 := FVec Ideal S8x128x16x8x8x8 .f32
abbrev B4 := FVec Ideal S8x128x16x8x8x8x8 .f32
abbrev Q1 := Fin 8 → Fin 128 → Fin 16 → Fin 8 → ℝ
abbrev Q2 := Fin 8 → Fin 128 → Fin 16 → Fin 8 → Fin 8 → ℝ
abbrev Q3 := Fin 8 → Fin 128 → Fin 16 → Fin 8 → Fin 8 → Fin 8 → ℝ
abbrev Q4 := Fin 8 → Fin 128 → Fin 16 → Fin 8 → Fin 8 → Fin 8 → Fin 8 → ℝ

/-- The array holds these reals. -/
def M1 (v : B1) (f : Q1) : Prop := ∀ b n s i, v (ix4 b n s i) = ((f b n s i : ℝ) : EReal)
def M2 (v : B2) (f : Q2) : Prop := ∀ b n s i j, v (ix5 b n s i j) = ((f b n s i j : ℝ) : EReal)
def M3 (v : B3) (f : Q3) : Prop := ∀ b n s i j k, v (ix6 b n s i j k) = ((f b n s i j k : ℝ) : EReal)
def M4 (v : B4) (f : Q4) : Prop := ∀ b n s i j k l, v (ix7 b n s i j k l) = ((f b n s i j k l : ℝ) : EReal)

section
variable {v w : B1} {f g : Q1}
theorem M1.congr (h : M1 v f) (e : ∀ b n s i, f b n s i = g b n s i) : M1 v g := fun b n s i => by rw [h, e]
theorem M1.add (hv : M1 v f) (hw : M1 w g) : M1 (addf v w) (fun b n s i => f b n s i + g b n s i) := fun b n s i => by
  pointwise; rw [hv, hw]; norm_cast
theorem M1.sub (hv : M1 v f) (hw : M1 w g) : M1 (subf v w) (fun b n s i => f b n s i - g b n s i) := fun b n s i => by
  pointwise; rw [hv, hw]; norm_cast
/-- The sum over the chunk's increments. -/
theorem M1.total (hv : M1 v f) :
    L1 (Host.reduceAdd v (constant S_ .f32 0x00000000#32) reducesTo_S8x128x16x8_S8x128x8_d2 h_S_) (fun b n i => pre (fun s => f b n s i) 16) := fun b n i => by
  pointwise
  refine (congrArg (fun z => z) (Finset.sum_congr rfl fun s _ => hv b n s i)).trans ?_
  rw [coe_sum16, pre_all]
/-- The place of a window's term. -/
theorem place1 (n : Fin 16) : (⟨4, ![1, 1, 16, 1]⟩ : Shape).rowMajor.symm n = ix4 (0 : Fin 1) (0 : Fin 1) n (0 : Fin 1) := by
  refine (Equiv.symm_apply_eq _).2 (Fin.ext ?_)
  rw [Shape.rowMajor_val_four]
  simp
/-- The running sums. -/
theorem M1.running (hv : M1 v f) :
    M1 (Host.reduceWindowAdd ![1, 1, 16, 1] ![1, 1, 1, 1] ![0, 0, 15, 0] ![0, 0, 0, 0] v (broadcastInDim S_ ![] bcast_S_S_ (constant S_ .f32 0x00000000#32)) reduceWindows_S8x128x16x8_S8x128x16x8_w1s1p0_0_w1s1p0_0_w16s1p15_0_w1s1p0_0 h_S_)
      (fun b n s i => pre (fun s => f b n s i) (s.val + 1)) := fun b n t i => by
  have h0 : broadcastInDim S_ ![] bcast_S_S_ (constant (F := Ideal) S_ .f32 0x00000000#32) (Shape.Idx.first h_S_) = (0 : EReal) := by
    pointwise
  show Host.reduceWindow (· + ·) ![1, 1, 16, 1] ![1, 1, 1, 1] ![0, 0, 15, 0] ![0, 0, 0, 0] v (fun _ : (⟨0, ![]⟩ : Shape).Idx => broadcastInDim S_ ![] bcast_S_S_ (constant (F := Ideal) S_ .f32 0x00000000#32) (Shape.Idx.first h_S_)) reduceWindows_S8x128x16x8_S8x128x16x8_w1s1p0_0_w1s1p0_0_w16s1p15_0_w1s1p0_0 (by decide) (ix4 b n t i) = _
  rw [h0]
  unfold Host.reduceWindow
  refine (fold_sum rfl _).trans ?_
  refine Eq.trans (Finset.sum_congr rfl fun u _ => ?_) ((coe_sum16 _).trans (congrArg _ (window_sum (fun s => f b n s i) t)))
  have hw : ∀ a, ((⟨4, ![1, 1, 16, 1]⟩ : Shape).rowMajor.symm u a).val = ((ix4 (0 : Fin 1) (0 : Fin 1) u (0 : Fin 1) : (⟨4, ![1, 1, 16, 1]⟩ : Shape).Idx) a).val := fun a =>
    congrArg (fun w : (⟨4, ![1, 1, 16, 1]⟩ : Shape).Idx => (w a).val) (place1 u)
  have hc : ((⟨4, ![1, 1, 16, 1]⟩ : Shape).rowMajor.symm u 2).val = u.val := hw 2
  split
  · next hin =>
    have h2 := (hin 2).1
    change 15 ≤ t.val * 1 + ((⟨4, ![1, 1, 16, 1]⟩ : Shape).rowMajor.symm u 2).val at h2
    rw [hc] at h2
    rw [dif_pos (by omega)]
    refine (congrArg v (funext fun a => Fin.ext ?_)).trans (hv b n ⟨t.val + u.val - 15, by omega⟩ i)
    match a with
      | ⟨0, _⟩ =>
        show b.val * 1 + ((⟨4, ![1, 1, 16, 1]⟩ : Shape).rowMajor.symm u 0).val - 0 = b.val
        rw [hw, Nat.mul_one]; exact Nat.add_zero _
      | ⟨1, _⟩ =>
        show n.val * 1 + ((⟨4, ![1, 1, 16, 1]⟩ : Shape).rowMajor.symm u 1).val - 0 = n.val
        rw [hw, Nat.mul_one]; exact Nat.add_zero _
      | ⟨2, _⟩ =>
        show t.val * 1 + ((⟨4, ![1, 1, 16, 1]⟩ : Shape).rowMajor.symm u 2).val - 15 = t.val + u.val - 15
        rw [hc, Nat.mul_one]
      | ⟨3, _⟩ =>
        show i.val * 1 + ((⟨4, ![1, 1, 16, 1]⟩ : Shape).rowMajor.symm u 3).val - 0 = i.val
        rw [hw, Nat.mul_one]; exact Nat.add_zero _
  · next hin =>
    rw [dif_neg fun hle => hin fun a => by
      match a with
        | ⟨0, _⟩ =>
          show 0 ≤ b.val * 1 + ((⟨4, ![1, 1, 16, 1]⟩ : Shape).rowMajor.symm u 0).val ∧ b.val * 1 + ((⟨4, ![1, 1, 16, 1]⟩ : Shape).rowMajor.symm u 0).val - 0 < 8
          rw [hw]; exact ⟨Nat.zero_le _, by show b.val * 1 + 0 - 0 < 8; omega⟩
        | ⟨1, _⟩ =>
          show 0 ≤ n.val * 1 + ((⟨4, ![1, 1, 16, 1]⟩ : Shape).rowMajor.symm u 1).val ∧ n.val * 1 + ((⟨4, ![1, 1, 16, 1]⟩ : Shape).rowMajor.symm u 1).val - 0 < 128
          rw [hw]; exact ⟨Nat.zero_le _, by show n.val * 1 + 0 - 0 < 128; omega⟩
        | ⟨2, _⟩ =>
          show 15 ≤ t.val * 1 + ((⟨4, ![1, 1, 16, 1]⟩ : Shape).rowMajor.symm u 2).val ∧ t.val * 1 + ((⟨4, ![1, 1, 16, 1]⟩ : Shape).rowMajor.symm u 2).val - 15 < 16
          rw [hc]; omega
        | ⟨3, _⟩ =>
          show 0 ≤ i.val * 1 + ((⟨4, ![1, 1, 16, 1]⟩ : Shape).rowMajor.symm u 3).val ∧ i.val * 1 + ((⟨4, ![1, 1, 16, 1]⟩ : Shape).rowMajor.symm u 3).val - 0 < 8
          rw [hw]; exact ⟨Nat.zero_le _, by show i.val * 1 + 0 - 0 < 8; omega⟩]
    rfl
end

section
variable {v w : B2} {f g : Q2}
theorem M2.congr (h : M2 v f) (e : ∀ b n s i j, f b n s i j = g b n s i j) : M2 v g := fun b n s i j => by rw [h, e]
theorem M2.add (hv : M2 v f) (hw : M2 w g) : M2 (addf v w) (fun b n s i j => f b n s i j + g b n s i j) := fun b n s i j => by
  pointwise; rw [hv, hw]; norm_cast
theorem M2.sub (hv : M2 v f) (hw : M2 w g) : M2 (subf v w) (fun b n s i j => f b n s i j - g b n s i j) := fun b n s i j => by
  pointwise; rw [hv, hw]; norm_cast
theorem M2.div (hv : M2 v f) {c : BitVec 32} {y : ℝ} (hc : Ideal.ofBits FTy.f32 c = (y : EReal)) (hy : y ≠ 0) :
    M2 (Host.divf v (broadcastInDim S8x128x16x8x8 ![] bcast_S_S8x128x16x8x8 (constant S_ .f32 c))) (fun b n s i j => f b n s i j / y) := fun b n s i j => by
  pointwise; rw [hv, hc]; exact div_real _ hy
/-- The sum over the chunk's increments. -/
theorem M2.total (hv : M2 v f) :
    L2 (Host.reduceAdd v (constant S_ .f32 0x00000000#32) reducesTo_S8x128x16x8x8_S8x128x8x8_d2 h_S_) (fun b n i j => pre (fun s => f b n s i j) 16) := fun b n i j => by
  pointwise
  refine (congrArg (fun z => z) (Finset.sum_congr rfl fun s _ => hv b n s i j)).trans ?_
  rw [coe_sum16, pre_all]
/-- The place of a window's term. -/
theorem place2 (n : Fin 16) : (⟨5, ![1, 1, 16, 1, 1]⟩ : Shape).rowMajor.symm n = ix5 (0 : Fin 1) (0 : Fin 1) n (0 : Fin 1) (0 : Fin 1) := by
  refine (Equiv.symm_apply_eq _).2 (Fin.ext ?_)
  rw [Shape.rowMajor_val_five]
  simp
/-- The running sums. -/
theorem M2.running (hv : M2 v f) :
    M2 (Host.reduceWindowAdd ![1, 1, 16, 1, 1] ![1, 1, 1, 1, 1] ![0, 0, 15, 0, 0] ![0, 0, 0, 0, 0] v (broadcastInDim S_ ![] bcast_S_S_ (constant S_ .f32 0x00000000#32)) reduceWindows_S8x128x16x8x8_S8x128x16x8x8_w1s1p0_0_w1s1p0_0_w16s1p15_0_w1s1p0_0_w1s1p0_0 h_S_)
      (fun b n s i j => pre (fun s => f b n s i j) (s.val + 1)) := fun b n t i j => by
  have h0 : broadcastInDim S_ ![] bcast_S_S_ (constant (F := Ideal) S_ .f32 0x00000000#32) (Shape.Idx.first h_S_) = (0 : EReal) := by
    pointwise
  show Host.reduceWindow (· + ·) ![1, 1, 16, 1, 1] ![1, 1, 1, 1, 1] ![0, 0, 15, 0, 0] ![0, 0, 0, 0, 0] v (fun _ : (⟨0, ![]⟩ : Shape).Idx => broadcastInDim S_ ![] bcast_S_S_ (constant (F := Ideal) S_ .f32 0x00000000#32) (Shape.Idx.first h_S_)) reduceWindows_S8x128x16x8x8_S8x128x16x8x8_w1s1p0_0_w1s1p0_0_w16s1p15_0_w1s1p0_0_w1s1p0_0 (by decide) (ix5 b n t i j) = _
  rw [h0]
  unfold Host.reduceWindow
  refine (fold_sum rfl _).trans ?_
  refine Eq.trans (Finset.sum_congr rfl fun u _ => ?_) ((coe_sum16 _).trans (congrArg _ (window_sum (fun s => f b n s i j) t)))
  have hw : ∀ a, ((⟨5, ![1, 1, 16, 1, 1]⟩ : Shape).rowMajor.symm u a).val = ((ix5 (0 : Fin 1) (0 : Fin 1) u (0 : Fin 1) (0 : Fin 1) : (⟨5, ![1, 1, 16, 1, 1]⟩ : Shape).Idx) a).val := fun a =>
    congrArg (fun w : (⟨5, ![1, 1, 16, 1, 1]⟩ : Shape).Idx => (w a).val) (place2 u)
  have hc : ((⟨5, ![1, 1, 16, 1, 1]⟩ : Shape).rowMajor.symm u 2).val = u.val := hw 2
  split
  · next hin =>
    have h2 := (hin 2).1
    change 15 ≤ t.val * 1 + ((⟨5, ![1, 1, 16, 1, 1]⟩ : Shape).rowMajor.symm u 2).val at h2
    rw [hc] at h2
    rw [dif_pos (by omega)]
    refine (congrArg v (funext fun a => Fin.ext ?_)).trans (hv b n ⟨t.val + u.val - 15, by omega⟩ i j)
    match a with
      | ⟨0, _⟩ =>
        show b.val * 1 + ((⟨5, ![1, 1, 16, 1, 1]⟩ : Shape).rowMajor.symm u 0).val - 0 = b.val
        rw [hw, Nat.mul_one]; exact Nat.add_zero _
      | ⟨1, _⟩ =>
        show n.val * 1 + ((⟨5, ![1, 1, 16, 1, 1]⟩ : Shape).rowMajor.symm u 1).val - 0 = n.val
        rw [hw, Nat.mul_one]; exact Nat.add_zero _
      | ⟨2, _⟩ =>
        show t.val * 1 + ((⟨5, ![1, 1, 16, 1, 1]⟩ : Shape).rowMajor.symm u 2).val - 15 = t.val + u.val - 15
        rw [hc, Nat.mul_one]
      | ⟨3, _⟩ =>
        show i.val * 1 + ((⟨5, ![1, 1, 16, 1, 1]⟩ : Shape).rowMajor.symm u 3).val - 0 = i.val
        rw [hw, Nat.mul_one]; exact Nat.add_zero _
      | ⟨4, _⟩ =>
        show j.val * 1 + ((⟨5, ![1, 1, 16, 1, 1]⟩ : Shape).rowMajor.symm u 4).val - 0 = j.val
        rw [hw, Nat.mul_one]; exact Nat.add_zero _
  · next hin =>
    rw [dif_neg fun hle => hin fun a => by
      match a with
        | ⟨0, _⟩ =>
          show 0 ≤ b.val * 1 + ((⟨5, ![1, 1, 16, 1, 1]⟩ : Shape).rowMajor.symm u 0).val ∧ b.val * 1 + ((⟨5, ![1, 1, 16, 1, 1]⟩ : Shape).rowMajor.symm u 0).val - 0 < 8
          rw [hw]; exact ⟨Nat.zero_le _, by show b.val * 1 + 0 - 0 < 8; omega⟩
        | ⟨1, _⟩ =>
          show 0 ≤ n.val * 1 + ((⟨5, ![1, 1, 16, 1, 1]⟩ : Shape).rowMajor.symm u 1).val ∧ n.val * 1 + ((⟨5, ![1, 1, 16, 1, 1]⟩ : Shape).rowMajor.symm u 1).val - 0 < 128
          rw [hw]; exact ⟨Nat.zero_le _, by show n.val * 1 + 0 - 0 < 128; omega⟩
        | ⟨2, _⟩ =>
          show 15 ≤ t.val * 1 + ((⟨5, ![1, 1, 16, 1, 1]⟩ : Shape).rowMajor.symm u 2).val ∧ t.val * 1 + ((⟨5, ![1, 1, 16, 1, 1]⟩ : Shape).rowMajor.symm u 2).val - 15 < 16
          rw [hc]; omega
        | ⟨3, _⟩ =>
          show 0 ≤ i.val * 1 + ((⟨5, ![1, 1, 16, 1, 1]⟩ : Shape).rowMajor.symm u 3).val ∧ i.val * 1 + ((⟨5, ![1, 1, 16, 1, 1]⟩ : Shape).rowMajor.symm u 3).val - 0 < 8
          rw [hw]; exact ⟨Nat.zero_le _, by show i.val * 1 + 0 - 0 < 8; omega⟩
        | ⟨4, _⟩ =>
          show 0 ≤ j.val * 1 + ((⟨5, ![1, 1, 16, 1, 1]⟩ : Shape).rowMajor.symm u 4).val ∧ j.val * 1 + ((⟨5, ![1, 1, 16, 1, 1]⟩ : Shape).rowMajor.symm u 4).val - 0 < 8
          rw [hw]; exact ⟨Nat.zero_le _, by show j.val * 1 + 0 - 0 < 8; omega⟩]
    rfl
end

section
variable {v w : B3} {f g : Q3}
theorem M3.congr (h : M3 v f) (e : ∀ b n s i j k, f b n s i j k = g b n s i j k) : M3 v g := fun b n s i j k => by rw [h, e]
theorem M3.add (hv : M3 v f) (hw : M3 w g) : M3 (addf v w) (fun b n s i j k => f b n s i j k + g b n s i j k) := fun b n s i j k => by
  pointwise; rw [hv, hw]; norm_cast
theorem M3.sub (hv : M3 v f) (hw : M3 w g) : M3 (subf v w) (fun b n s i j k => f b n s i j k - g b n s i j k) := fun b n s i j k => by
  pointwise; rw [hv, hw]; norm_cast
theorem M3.div (hv : M3 v f) {c : BitVec 32} {y : ℝ} (hc : Ideal.ofBits FTy.f32 c = (y : EReal)) (hy : y ≠ 0) :
    M3 (Host.divf v (broadcastInDim S8x128x16x8x8x8 ![] bcast_S_S8x128x16x8x8x8 (constant S_ .f32 c))) (fun b n s i j k => f b n s i j k / y) := fun b n s i j k => by
  pointwise; rw [hv, hc]; exact div_real _ hy
/-- The sum over the chunk's increments. -/
theorem M3.total (hv : M3 v f) :
    L3 (Host.reduceAdd v (constant S_ .f32 0x00000000#32) reducesTo_S8x128x16x8x8x8_S8x128x8x8x8_d2 h_S_) (fun b n i j k => pre (fun s => f b n s i j k) 16) := fun b n i j k => by
  show Ideal.hostReduceAdd reducesTo_S8x128x16x8x8x8_S8x128x8x8x8_d2 v (constant (F := Ideal) S_ .f32 0x00000000#32 (Shape.Idx.first h_S_)) (ix5 b n i j k) = _
  rw [Ideal.hostReduceAdd_single _ (by decide), show constant (F := Ideal) S_ .f32 0x00000000#32 (Shape.Idx.first h_S_) = (0 : EReal) by pointwise, zero_add]
  refine (Finset.sum_congr rfl fun s _ => (congrArg v (funext fun a => by fin_cases a <;> rfl)).trans (hv b n s i j k)).trans ?_
  exact (coe_sum16 fun s => f b n s i j k).trans (congrArg _ (pre_all _))
/-- The place of a window's term. -/
theorem place3 (n : Fin 16) : (⟨6, ![1, 1, 16, 1, 1, 1]⟩ : Shape).rowMajor.symm n = ix6 (0 : Fin 1) (0 : Fin 1) n (0 : Fin 1) (0 : Fin 1) (0 : Fin 1) := by
  refine (Equiv.symm_apply_eq _).2 (Fin.ext ?_)
  rw [Shape.rowMajor_val_six]
  simp
/-- The running sums. -/
theorem M3.running (hv : M3 v f) :
    M3 (Host.reduceWindowAdd ![1, 1, 16, 1, 1, 1] ![1, 1, 1, 1, 1, 1] ![0, 0, 15, 0, 0, 0] ![0, 0, 0, 0, 0, 0] v (broadcastInDim S_ ![] bcast_S_S_ (constant S_ .f32 0x00000000#32)) reduceWindows_S8x128x16x8x8x8_S8x128x16x8x8x8_w1s1p0_0_w1s1p0_0_w16s1p15_0_w1s1p0_0_w1s1p0_0_w1s1p0_0 h_S_)
      (fun b n s i j k => pre (fun s => f b n s i j k) (s.val + 1)) := fun b n t i j k => by
  have h0 : broadcastInDim S_ ![] bcast_S_S_ (constant (F := Ideal) S_ .f32 0x00000000#32) (Shape.Idx.first h_S_) = (0 : EReal) := by
    pointwise
  show Host.reduceWindow (· + ·) ![1, 1, 16, 1, 1, 1] ![1, 1, 1, 1, 1, 1] ![0, 0, 15, 0, 0, 0] ![0, 0, 0, 0, 0, 0] v (fun _ : (⟨0, ![]⟩ : Shape).Idx => broadcastInDim S_ ![] bcast_S_S_ (constant (F := Ideal) S_ .f32 0x00000000#32) (Shape.Idx.first h_S_)) reduceWindows_S8x128x16x8x8x8_S8x128x16x8x8x8_w1s1p0_0_w1s1p0_0_w16s1p15_0_w1s1p0_0_w1s1p0_0_w1s1p0_0 (by decide) (ix6 b n t i j k) = _
  rw [h0]
  unfold Host.reduceWindow
  refine (fold_sum rfl _).trans ?_
  refine Eq.trans (Finset.sum_congr rfl fun u _ => ?_) ((coe_sum16 _).trans (congrArg _ (window_sum (fun s => f b n s i j k) t)))
  have hw : ∀ a, ((⟨6, ![1, 1, 16, 1, 1, 1]⟩ : Shape).rowMajor.symm u a).val = ((ix6 (0 : Fin 1) (0 : Fin 1) u (0 : Fin 1) (0 : Fin 1) (0 : Fin 1) : (⟨6, ![1, 1, 16, 1, 1, 1]⟩ : Shape).Idx) a).val := fun a =>
    congrArg (fun w : (⟨6, ![1, 1, 16, 1, 1, 1]⟩ : Shape).Idx => (w a).val) (place3 u)
  have hc : ((⟨6, ![1, 1, 16, 1, 1, 1]⟩ : Shape).rowMajor.symm u 2).val = u.val := hw 2
  split
  · next hin =>
    have h2 := (hin 2).1
    change 15 ≤ t.val * 1 + ((⟨6, ![1, 1, 16, 1, 1, 1]⟩ : Shape).rowMajor.symm u 2).val at h2
    rw [hc] at h2
    rw [dif_pos (by omega)]
    refine (congrArg v (funext fun a => Fin.ext ?_)).trans (hv b n ⟨t.val + u.val - 15, by omega⟩ i j k)
    match a with
      | ⟨0, _⟩ =>
        show b.val * 1 + ((⟨6, ![1, 1, 16, 1, 1, 1]⟩ : Shape).rowMajor.symm u 0).val - 0 = b.val
        rw [hw, Nat.mul_one]; exact Nat.add_zero _
      | ⟨1, _⟩ =>
        show n.val * 1 + ((⟨6, ![1, 1, 16, 1, 1, 1]⟩ : Shape).rowMajor.symm u 1).val - 0 = n.val
        rw [hw, Nat.mul_one]; exact Nat.add_zero _
      | ⟨2, _⟩ =>
        show t.val * 1 + ((⟨6, ![1, 1, 16, 1, 1, 1]⟩ : Shape).rowMajor.symm u 2).val - 15 = t.val + u.val - 15
        rw [hc, Nat.mul_one]
      | ⟨3, _⟩ =>
        show i.val * 1 + ((⟨6, ![1, 1, 16, 1, 1, 1]⟩ : Shape).rowMajor.symm u 3).val - 0 = i.val
        rw [hw, Nat.mul_one]; exact Nat.add_zero _
      | ⟨4, _⟩ =>
        show j.val * 1 + ((⟨6, ![1, 1, 16, 1, 1, 1]⟩ : Shape).rowMajor.symm u 4).val - 0 = j.val
        rw [hw, Nat.mul_one]; exact Nat.add_zero _
      | ⟨5, _⟩ =>
        show k.val * 1 + ((⟨6, ![1, 1, 16, 1, 1, 1]⟩ : Shape).rowMajor.symm u 5).val - 0 = k.val
        rw [hw, Nat.mul_one]; exact Nat.add_zero _
  · next hin =>
    rw [dif_neg fun hle => hin fun a => by
      match a with
        | ⟨0, _⟩ =>
          show 0 ≤ b.val * 1 + ((⟨6, ![1, 1, 16, 1, 1, 1]⟩ : Shape).rowMajor.symm u 0).val ∧ b.val * 1 + ((⟨6, ![1, 1, 16, 1, 1, 1]⟩ : Shape).rowMajor.symm u 0).val - 0 < 8
          rw [hw]; exact ⟨Nat.zero_le _, by show b.val * 1 + 0 - 0 < 8; omega⟩
        | ⟨1, _⟩ =>
          show 0 ≤ n.val * 1 + ((⟨6, ![1, 1, 16, 1, 1, 1]⟩ : Shape).rowMajor.symm u 1).val ∧ n.val * 1 + ((⟨6, ![1, 1, 16, 1, 1, 1]⟩ : Shape).rowMajor.symm u 1).val - 0 < 128
          rw [hw]; exact ⟨Nat.zero_le _, by show n.val * 1 + 0 - 0 < 128; omega⟩
        | ⟨2, _⟩ =>
          show 15 ≤ t.val * 1 + ((⟨6, ![1, 1, 16, 1, 1, 1]⟩ : Shape).rowMajor.symm u 2).val ∧ t.val * 1 + ((⟨6, ![1, 1, 16, 1, 1, 1]⟩ : Shape).rowMajor.symm u 2).val - 15 < 16
          rw [hc]; omega
        | ⟨3, _⟩ =>
          show 0 ≤ i.val * 1 + ((⟨6, ![1, 1, 16, 1, 1, 1]⟩ : Shape).rowMajor.symm u 3).val ∧ i.val * 1 + ((⟨6, ![1, 1, 16, 1, 1, 1]⟩ : Shape).rowMajor.symm u 3).val - 0 < 8
          rw [hw]; exact ⟨Nat.zero_le _, by show i.val * 1 + 0 - 0 < 8; omega⟩
        | ⟨4, _⟩ =>
          show 0 ≤ j.val * 1 + ((⟨6, ![1, 1, 16, 1, 1, 1]⟩ : Shape).rowMajor.symm u 4).val ∧ j.val * 1 + ((⟨6, ![1, 1, 16, 1, 1, 1]⟩ : Shape).rowMajor.symm u 4).val - 0 < 8
          rw [hw]; exact ⟨Nat.zero_le _, by show j.val * 1 + 0 - 0 < 8; omega⟩
        | ⟨5, _⟩ =>
          show 0 ≤ k.val * 1 + ((⟨6, ![1, 1, 16, 1, 1, 1]⟩ : Shape).rowMajor.symm u 5).val ∧ k.val * 1 + ((⟨6, ![1, 1, 16, 1, 1, 1]⟩ : Shape).rowMajor.symm u 5).val - 0 < 8
          rw [hw]; exact ⟨Nat.zero_le _, by show k.val * 1 + 0 - 0 < 8; omega⟩]
    rfl
end

section
variable {v w : B4} {f g : Q4}
theorem M4.congr (h : M4 v f) (e : ∀ b n s i j k l, f b n s i j k l = g b n s i j k l) : M4 v g := fun b n s i j k l => by rw [h, e]
theorem M4.add (hv : M4 v f) (hw : M4 w g) : M4 (addf v w) (fun b n s i j k l => f b n s i j k l + g b n s i j k l) := fun b n s i j k l => by
  pointwise; rw [hv, hw]; norm_cast
theorem M4.sub (hv : M4 v f) (hw : M4 w g) : M4 (subf v w) (fun b n s i j k l => f b n s i j k l - g b n s i j k l) := fun b n s i j k l => by
  pointwise; rw [hv, hw]; norm_cast
theorem M4.div (hv : M4 v f) {c : BitVec 32} {y : ℝ} (hc : Ideal.ofBits FTy.f32 c = (y : EReal)) (hy : y ≠ 0) :
    M4 (Host.divf v (broadcastInDim S8x128x16x8x8x8x8 ![] bcast_S_S8x128x16x8x8x8x8 (constant S_ .f32 c))) (fun b n s i j k l => f b n s i j k l / y) := fun b n s i j k l => by
  pointwise; rw [hv, hc]; exact div_real _ hy
/-- The sum over the chunk's increments. -/
theorem M4.total (hv : M4 v f) :
    L4 (Host.reduceAdd v (constant S_ .f32 0x00000000#32) reducesTo_S8x128x16x8x8x8x8_S8x128x8x8x8x8_d2 h_S_) (fun b n i j k l => pre (fun s => f b n s i j k l) 16) := fun b n i j k l => by
  show Ideal.hostReduceAdd reducesTo_S8x128x16x8x8x8x8_S8x128x8x8x8x8_d2 v (constant (F := Ideal) S_ .f32 0x00000000#32 (Shape.Idx.first h_S_)) (ix6 b n i j k l) = _
  rw [Ideal.hostReduceAdd_single _ (by decide), show constant (F := Ideal) S_ .f32 0x00000000#32 (Shape.Idx.first h_S_) = (0 : EReal) by pointwise, zero_add]
  refine (Finset.sum_congr rfl fun s _ => (congrArg v (funext fun a => by fin_cases a <;> rfl)).trans (hv b n s i j k l)).trans ?_
  exact (coe_sum16 fun s => f b n s i j k l).trans (congrArg _ (pre_all _))
end

/-- Letters of level 1 before letters of level 1. -/
theorem both11 {v : B1} {w : B1} {f : Q1} {g : Q1} (hv : M1 v f) (hw : M1 w g) :
    M2 (mulf (broadcastInDim S8x128x16x8x8 ![0, 1, 2, 3, 4] bcast_S8x128x16x8x1_S8x128x16x8x8_0_1_2_3_4 (broadcastInDim S8x128x16x8x1 ![0, 1, 2, 3] bcast_S8x128x16x8_S8x128x16x8x1_0_1_2_3 v))
      (broadcastInDim S8x128x16x8x8 ![0, 1, 2, 3, 4] bcast_S8x128x16x1x8_S8x128x16x8x8_0_1_2_3_4 (broadcastInDim S8x128x16x1x8 ![0, 1, 2, 4] bcast_S8x128x16x8_S8x128x16x1x8_0_1_2_4 w)))
      (fun b n s i j => f b n s i * g b n s j) := fun b n s i j => by
  pointwise; rw [hv, hw]; norm_cast

/-- Letters of level 1 before letters of level 2. -/
theorem both12 {v : B1} {w : B2} {f : Q1} {g : Q2} (hv : M1 v f) (hw : M2 w g) :
    M3 (mulf (broadcastInDim S8x128x16x8x8x8 ![0, 1, 2, 3, 4, 5] bcast_S8x128x16x8x1x1_S8x128x16x8x8x8_0_1_2_3_4_5 (broadcastInDim S8x128x16x8x1x1 ![0, 1, 2, 3] bcast_S8x128x16x8_S8x128x16x8x1x1_0_1_2_3 v))
      (broadcastInDim S8x128x16x8x8x8 ![0, 1, 2, 3, 4, 5] bcast_S8x128x16x1x8x8_S8x128x16x8x8x8_0_1_2_3_4_5 (broadcastInDim S8x128x16x1x8x8 ![0, 1, 2, 4, 5] bcast_S8x128x16x8x8_S8x128x16x1x8x8_0_1_2_4_5 w)))
      (fun b n s i j k => f b n s i * g b n s j k) := fun b n s i j k => by
  pointwise; rw [hv, hw]; norm_cast

/-- Letters of level 2 before letters of level 1. -/
theorem both21 {v : B2} {w : B1} {f : Q2} {g : Q1} (hv : M2 v f) (hw : M1 w g) :
    M3 (mulf (broadcastInDim S8x128x16x8x8x8 ![0, 1, 2, 3, 4, 5] bcast_S8x128x16x8x8x1_S8x128x16x8x8x8_0_1_2_3_4_5 (broadcastInDim S8x128x16x8x8x1 ![0, 1, 2, 3, 4] bcast_S8x128x16x8x8_S8x128x16x8x8x1_0_1_2_3_4 v))
      (broadcastInDim S8x128x16x8x8x8 ![0, 1, 2, 3, 4, 5] bcast_S8x128x16x1x1x8_S8x128x16x8x8x8_0_1_2_3_4_5 (broadcastInDim S8x128x16x1x1x8 ![0, 1, 2, 5] bcast_S8x128x16x8_S8x128x16x1x1x8_0_1_2_5 w)))
      (fun b n s i j k => f b n s i j * g b n s k) := fun b n s i j k => by
  pointwise; rw [hv, hw]; norm_cast

/-- Letters of level 1 before letters of level 3. -/
theorem both13 {v : B1} {w : B3} {f : Q1} {g : Q3} (hv : M1 v f) (hw : M3 w g) :
    M4 (mulf (broadcastInDim S8x128x16x8x8x8x8 ![0, 1, 2, 3, 4, 5, 6] bcast_S8x128x16x8x1x1x1_S8x128x16x8x8x8x8_0_1_2_3_4_5_6 (broadcastInDim S8x128x16x8x1x1x1 ![0, 1, 2, 3] bcast_S8x128x16x8_S8x128x16x8x1x1x1_0_1_2_3 v))
      (broadcastInDim S8x128x16x8x8x8x8 ![0, 1, 2, 3, 4, 5, 6] bcast_S8x128x16x1x8x8x8_S8x128x16x8x8x8x8_0_1_2_3_4_5_6 (broadcastInDim S8x128x16x1x8x8x8 ![0, 1, 2, 4, 5, 6] bcast_S8x128x16x8x8x8_S8x128x16x1x8x8x8_0_1_2_4_5_6 w)))
      (fun b n s i j k l => f b n s i * g b n s j k l) := fun b n s i j k l => by
  pointwise; rw [hv, hw]; norm_cast

/-- Letters of level 2 before letters of level 2. -/
theorem both22 {v : B2} {w : B2} {f : Q2} {g : Q2} (hv : M2 v f) (hw : M2 w g) :
    M4 (mulf (broadcastInDim S8x128x16x8x8x8x8 ![0, 1, 2, 3, 4, 5, 6] bcast_S8x128x16x8x8x1x1_S8x128x16x8x8x8x8_0_1_2_3_4_5_6 (broadcastInDim S8x128x16x8x8x1x1 ![0, 1, 2, 3, 4] bcast_S8x128x16x8x8_S8x128x16x8x8x1x1_0_1_2_3_4 v))
      (broadcastInDim S8x128x16x8x8x8x8 ![0, 1, 2, 3, 4, 5, 6] bcast_S8x128x16x1x1x8x8_S8x128x16x8x8x8x8_0_1_2_3_4_5_6 (broadcastInDim S8x128x16x1x1x8x8 ![0, 1, 2, 5, 6] bcast_S8x128x16x8x8_S8x128x16x1x1x8x8_0_1_2_5_6 w)))
      (fun b n s i j k l => f b n s i j * g b n s k l) := fun b n s i j k l => by
  pointwise; rw [hv, hw]; norm_cast

/-- Letters of level 3 before letters of level 1. -/
theorem both31 {v : B3} {w : B1} {f : Q3} {g : Q1} (hv : M3 v f) (hw : M1 w g) :
    M4 (mulf (broadcastInDim S8x128x16x8x8x8x8 ![0, 1, 2, 3, 4, 5, 6] bcast_S8x128x16x8x8x8x1_S8x128x16x8x8x8x8_0_1_2_3_4_5_6 (broadcastInDim S8x128x16x8x8x8x1 ![0, 1, 2, 3, 4, 5] bcast_S8x128x16x8x8x8_S8x128x16x8x8x8x1_0_1_2_3_4_5 v))
      (broadcastInDim S8x128x16x8x8x8x8 ![0, 1, 2, 3, 4, 5, 6] bcast_S8x128x16x1x1x1x8_S8x128x16x8x8x8x8_0_1_2_3_4_5_6 (broadcastInDim S8x128x16x1x1x1x8 ![0, 1, 2, 6] bcast_S8x128x16x8_S8x128x16x1x1x1x8_0_1_2_6 w)))
      (fun b n s i j k l => f b n s i j k * g b n s l) := fun b n s i j k l => by
  pointwise; rw [hv, hw]; norm_cast

end Cert.ReferenceIdeal.Steps

end
-- ==== Proof.ReferenceIdeal.Step.lean ====
module

public import proofs.«01_k».proof.Proof.Gen.ReferenceIdeal.Run
public import proofs.«01_k».proof.Proof.ReferenceIdeal.Levels

/-! One round of the reference's scan, on real numbers: the logarithm of the running products, each times the one its
reach before it. -/

@[expose] public section

set_option maxRecDepth 16384

noncomputable section

namespace Cert.ReferenceIdeal.Step

open Idealize.ShloMosaic Cert.ReferenceIdeal Cert.ReferenceIdeal.Gen Cert.ReferenceIdeal.Value Cert.ReferenceIdeal.Levels Cert.Algebra

/-- The carried levels hold these elements, batch by chunk. -/
structure Holds (V : Valuation τ sig (Elt Ideal)) (H : Fin 8 → Fin 128 → TA) : Prop where
  l1 : L1 (V (Proc.devRef .tc main_v161_2)) fun b n => (H b n).l1
  l2 : L2 (V (Proc.devRef .tc main_v161_3)) fun b n => (H b n).l2
  l3 : L3 (V (Proc.devRef .tc main_v161_4)) fun b n => (H b n).l3
  l4 : L4 (V (Proc.devRef .tc main_v161_5)) fun b n => (H b n).l4

/-- The round's number is counted. -/
def Counts (V : Valuation τ sig (Elt Ideal)) (k : ℕ) : Prop :=
  ∀ i, (V (Proc.devRef .tc main_v161_1) : IVec S_ 32) i = BitVec.ofNat 32 k

variable {V : Valuation τ sig (Elt Ideal)} {H : Fin 8 → Fin 128 → TA} {k : ℕ}

theorem Counts.step (c : Counts V k) : Counts (STEP V) (k + 1) := fun i => by
  rw [STEP_main_v161_1]
  exact (congrArg (fun w : BitVec 32 => w + 1#32) (c i)).trans (BitVec.ofNat_add k 1).symm

theorem Counts.start (c : Counts V k) (hk : k < 7) (i : S_.Idx) :
    (subi (constantI S_ 32 128#32) (Host.shli (constantI S_ 32 1#32) (V (Proc.devRef .tc main_v161_1) : IVec S_ 32)) : IVec S_ 32) i
      = BitVec.ofNat 32 (128 - 2 ^ k) := by
  pointwise
  rw [c i]
  interval_cases k <;> rfl

theorem reach {k : ℕ} (hk : k < 7) : 2 ^ k ≤ 128 := by
  interval_cases k <;> norm_num

theorem shift_ite (p : TA → ℝ) (hp : p TA.zero = 0) (d : ℕ) (G : Fin 128 → TA) (n : Fin 128) :
    (if h : d ≤ n.val then p (G ⟨n.val - d, by omega⟩) else 0) = p (TA.shift d G n) := by
  unfold TA.shift; split
  · rfl
  · exact hp.symm

/-- After a round: the logarithm of the products of the exponentials. -/
theorem Holds.step (h : Holds V H) (c : Counts V k) (hk : k < 7) :
    Holds (STEP V) fun b n => TA.log (TA.mul (TA.exp (TA.shift (2 ^ k) (H b) n)) (TA.exp (H b n))) := by
  have hs := c.start hk (Shape.Idx.first h_S_)
  have p1 := h.l1; have p2 := h.l2; have p3 := h.l3; have p4 := h.l4
  have q1 : L1 (res_main_while0b_v187 V) (fun b n => (TA.shift (2 ^ k) (H b) n).l1) :=
    (L1.delay L1.none p1 _ (reach hk) hs).congr fun b n i => shift_ite (fun x => x.l1 i) rfl _ _ _
  have q2 : L2 (res_main_while0b_v194 V) (fun b n => (TA.shift (2 ^ k) (H b) n).l2) :=
    (L2.delay L2.none p2 _ (reach hk) hs).congr fun b n i j => shift_ite (fun x => x.l2 i j) rfl _ _ _
  have q3 : L3 (res_main_while0b_v201 V) (fun b n => (TA.shift (2 ^ k) (H b) n).l3) :=
    (L3.delay L3.none p3 _ (reach hk) hs).congr fun b n i j m => shift_ite (fun x => x.l3 i j m) rfl _ _ _
  have q4 := (L4.delay L4.none p4 (res_main_while0b_v204 V) (reach hk) hs).congr
    (g := fun b n => (TA.shift (2 ^ k) (H b) n).l4) fun b n i j m l => shift_ite (fun x => x.l4 i j m l) rfl _ _ _
  have r213 : L2 (res_main_while0b_v213 V) _ := outer11 q1 q1
  have r224 : L3 (res_main_while0b_v224 V) _ := (outer12 q1 q2).add (outer21 q2 q1)
  have r246 : L3 (res_main_while0b_v246 V) _ := outer12 q1 r213
  have r265 : L2 (res_main_while0b_v265 V) _ := q2.add (r213.div two (by norm_num))
  have r271 : L3 (res_main_while0b_v271 V) _ := (q3.add (r224.div two (by norm_num))).add (r246.div six (by norm_num))
  have r285 : L2 (res_main_while0b_v285 V) _ := outer11 p1 p1
  have r296 : L3 (res_main_while0b_v296 V) _ := (outer12 p1 p2).add (outer21 p2 p1)
  have r318 : L3 (res_main_while0b_v318 V) _ := outer12 p1 r285
  have r337 : L2 (res_main_while0b_v337 V) _ := p2.add (r285.div two (by norm_num))
  have r343 : L3 (res_main_while0b_v343 V) _ := (p3.add (r296.div two (by norm_num))).add (r318.div six (by norm_num))
  have r353 : L1 (res_main_while0b_v353 V) _ := q1.add p1
  have r360 : L2 (res_main_while0b_v360 V) _ := (r265.add r337).add (outer11 q1 p1)
  have r373 : L3 (res_main_while0b_v373 V) _ := ((r271.add r343).add (outer12 q1 r337)).add (outer21 r265 p1)
  have r374 : L4 (res_main_while0b_v374 V) _ :=
    (((q4.add ((((outer13 q1 q3).add (outer22 q2 q2)).add (outer31 q3 q1)).div two (by norm_num))).add
      (((outer13 q1 r224).add (outer22 q2 r213)).div six (by norm_num))).add ((outer13 q1 r246).div twentyfour (by norm_num))).add
    (((p4.add ((((outer13 p1 p3).add (outer22 p2 p2)).add (outer31 p3 p1)).div two (by norm_num))).add
      (((outer13 p1 r296).add (outer22 p2 r285)).div six (by norm_num))).add ((outer13 p1 r318).div twentyfour (by norm_num)))
  have r397 : L2 (res_main_while0b_v397 V) _ := outer11 r353 r353
  have r408 : L3 (res_main_while0b_v408 V) _ := (outer12 r353 r360).add (outer21 r360 r353)
  have r430 : L3 (res_main_while0b_v430 V) _ := outer12 r353 r397
  have s2 : L2 (step_main_v161_3 V) _ := r360.sub (r397.div two (by norm_num))
  have s3 : L3 (step_main_v161_4 V) _ := (r373.sub (r408.div two (by norm_num))).add (r430.div three (by norm_num))
  have s4 : L4 (step_main_v161_5 V) _ :=
    ((((((r374.add (outer13 q1 r343)).add (outer22 r265 r337)).add (outer31 r271 p1)).sub
      ((((outer13 r353 r373).add (outer22 r360 r360)).add (outer31 r373 r353)).div two (by norm_num))).add
      (((outer13 r353 r408).add (outer22 r360 r397)).div three (by norm_num)))).sub
      ((outer13 r353 r430).div four (by norm_num))
  refine ⟨?_, ?_, ?_, ?_⟩
  · rw [STEP_main_v161_2]; exact r353
  · rw [STEP_main_v161_3]
    exact s2.congr fun b n i j => by simp only [TA.log, TA.mul, TA.exp]
  · rw [STEP_main_v161_4]
    exact s3.congr fun b n i j m => by simp only [TA.log, TA.mul, TA.exp]
  · rw [STEP_main_v161_5]
    exact s4.congr fun b n i j m l => by simp only [TA.log, TA.mul, TA.exp]

/-- Every round, from the logarithms of given elements. -/
theorem Holds.iterate {S : Fin 8 → Fin 128 → TA} (h : Holds V fun b n => TA.log (S b n)) (c : Counts V 0) :
    ∀ k, k ≤ 7 → Holds (STEP^[k] V) (fun b n => TA.log (TA.scan (S b) k n)) ∧ Counts (STEP^[k] V) k
  | 0, _ => ⟨h, c⟩
  | k + 1, hk => by
    obtain ⟨hh, cc⟩ := Holds.iterate h c k (by omega)
    rw [Function.iterate_succ_apply']
    refine ⟨?_, cc.step⟩
    have e := hh.step cc (by omega)
    have q : (fun b n => TA.log (TA.mul (TA.exp (TA.shift (2 ^ k) (fun n => TA.log (TA.scan (S b) k n)) n)) (TA.exp (TA.log (TA.scan (S b) k n)))))
        = fun b n => TA.log (TA.scan (S b) (k + 1) n) := by
      funext b n
      rw [TA.exp_log]
      show _ = TA.log (TA.mul (TA.shift (2 ^ k) (TA.scan (S b) k) n) (TA.scan (S b) k n))
      unfold TA.shift
      split
      · rw [TA.exp_log]
      · rw [TA.exp_zero]
    rw [q] at e
    exact e

end Cert.ReferenceIdeal.Step

end
-- ==== Proof.ReferenceIdeal.Entry.lean ====
module

public import proofs.«01_k».proof.Proof.ReferenceIdeal.Steps
public import proofs.«01_k».proof.Proof.ReferenceIdeal.Step
public import Idealize.ShloMosaic.Lib.StableHlo.ReadAt

/-! From the increments to the loop's entry: the logarithms of the chunks' products. -/

@[expose] public section

set_option maxRecDepth 16384

noncomputable section

namespace Cert.ReferenceIdeal.Entry

open Idealize.ShloMosaic Cert.ReferenceIdeal Cert.ReferenceIdeal.Gen Cert.ReferenceIdeal.Value Cert.ReferenceIdeal.Levels
open Cert.ReferenceIdeal.Steps Cert.ReferenceIdeal.Step Cert.Algebra
open Idealize.ShloMosaic.TcCoe Idealize.ShloMosaic.StableHlo

/-- The powers of the increments. -/
structure Powers (V : Valuation τ sig (Elt Ideal)) (D : Q1) : Prop where
  d1 : M1 (V (Proc.devRef .tc main_v6)) D
  d2 : M2 (V (Proc.devRef .tc main_v13)) fun b n s i j => D b n s i * D b n s j / 2
  d3 : M3 (V (Proc.devRef .tc main_v25)) fun b n s i j k => D b n s i * D b n s j * D b n s k / 6
  d4 : M4 (V (Proc.devRef .tc main_v42)) fun b n s i j k l => D b n s i * D b n s j * D b n s k * D b n s l / 24

variable {V : Valuation τ sig (Elt Ideal)} {D : Q1}

theorem powers (h : M1 (fun i => shapeCast main_v6.ty.shape (V (Proc.devRef .tc main_v5)) shapeCasts_S8x2048x8_S8x128x16x8 i) D) :
    Powers (after hostOps0_4 V) D where
  d1 := by after_reads_simp; exact h
  d2 := by after_reads_simp; exact (both11 h h).div two (by norm_num)
  d3 := by after_reads_simp; exact (both21 (both11 h h) h).div six (by norm_num)
  d4 := by after_reads_simp; exact (both31 (both21 (both11 h h) h) h).div twentyfour (by norm_num)

/-- And what the second level adds. -/
structure Second (V : Valuation τ sig (Elt Ideal)) (D : Q1) : Prop extends Powers V D where
  b1 : M1 (V (Proc.devRef .tc main_v44)) fun b n s i => s1 (D b n) s.val i
  a2 : M2 (V (Proc.devRef .tc main_v50)) fun b n s i j => g2 (D b n) s i j

theorem second (h : Powers V D) : Second (after hostOps0_6 (after hostOps0_5 V)) D := by
  have r : M1 (after hostOps0_5 V (Proc.devRef .tc main_v43)) (fun b n s i => pre (fun s => D b n s i) (s.val + 1)) := by after_reads_simp; exact M1.running h.d1
  have k1 : after hostOps0_5 V (Proc.devRef .tc main_v6) = V (Proc.devRef .tc main_v6) := by after_reads_simp
  have k2 : after hostOps0_5 V (Proc.devRef .tc main_v13) = V (Proc.devRef .tc main_v13) := by after_reads_simp
  have k3 : after hostOps0_5 V (Proc.devRef .tc main_v25) = V (Proc.devRef .tc main_v25) := by after_reads_simp
  have k4 : after hostOps0_5 V (Proc.devRef .tc main_v42) = V (Proc.devRef .tc main_v42) := by after_reads_simp
  generalize after hostOps0_5 V = U at *
  have h1 : M1 (U (Proc.devRef .tc main_v6)) D := k1 ▸ h.d1
  have h2 := h.d2; rw [← k2] at h2
  have h3 := h.d3; rw [← k3] at h3
  have h4 := h.d4; rw [← k4] at h4
  have q : M1 (subf (U (Proc.devRef .tc main_v43)) (U (Proc.devRef .tc main_v6))) (fun b n s i => s1 (D b n) s.val i) :=
    (r.sub h1).congr fun b n s i => by rw [pre_succ, add_sub_cancel_right]; rfl
  exact {
    d1 := by after_reads_simp; exact h1
    d2 := by after_reads_simp; exact h2
    d3 := by after_reads_simp; exact h3
    d4 := by after_reads_simp; exact h4
    b1 := by after_reads_simp; exact q
    a2 := by after_reads_simp; exact h2.add (both11 q h1) }

/-- And what the third level adds. -/
structure Third (V : Valuation τ sig (Elt Ideal)) (D : Q1) : Prop extends Second V D where
  b2 : M2 (V (Proc.devRef .tc main_v52)) fun b n s i j => s2 (D b n) s.val i j
  a3 : M3 (V (Proc.devRef .tc main_v64)) fun b n s i j k => g3 (D b n) s i j k

theorem third (h : Second V D) : Third (after hostOps0_8 (after hostOps0_7 V)) D := by
  have r : M2 (after hostOps0_7 V (Proc.devRef .tc main_v51)) (fun b n s i j => pre (fun s => g2 (D b n) s i j) (s.val + 1)) := by after_reads_simp; exact M2.running h.a2
  have k1 : after hostOps0_7 V (Proc.devRef .tc main_v6) = V (Proc.devRef .tc main_v6) := by after_reads_simp
  have k2 : after hostOps0_7 V (Proc.devRef .tc main_v13) = V (Proc.devRef .tc main_v13) := by after_reads_simp
  have k3 : after hostOps0_7 V (Proc.devRef .tc main_v25) = V (Proc.devRef .tc main_v25) := by after_reads_simp
  have k4 : after hostOps0_7 V (Proc.devRef .tc main_v42) = V (Proc.devRef .tc main_v42) := by after_reads_simp
  have k5 : after hostOps0_7 V (Proc.devRef .tc main_v44) = V (Proc.devRef .tc main_v44) := by after_reads_simp
  have k6 : after hostOps0_7 V (Proc.devRef .tc main_v50) = V (Proc.devRef .tc main_v50) := by after_reads_simp
  generalize after hostOps0_7 V = U at *
  have h1 : M1 (U (Proc.devRef .tc main_v6)) D := k1 ▸ h.d1
  have h2 := h.d2; rw [← k2] at h2
  have h3 := h.d3; rw [← k3] at h3
  have h4 := h.d4; rw [← k4] at h4
  have h5 := h.b1; rw [← k5] at h5
  have h6 := h.a2; rw [← k6] at h6
  have q : M2 (subf (U (Proc.devRef .tc main_v51)) (U (Proc.devRef .tc main_v50))) (fun b n s i j => s2 (D b n) s.val i j) :=
    (r.sub h6).congr fun b n s i j => by rw [pre_succ, add_sub_cancel_right]; rfl
  exact {
    d1 := by after_reads_simp; exact h1
    d2 := by after_reads_simp; exact h2
    d3 := by after_reads_simp; exact h3
    d4 := by after_reads_simp; exact h4
    b1 := by after_reads_simp; exact h5
    a2 := by after_reads_simp; exact h6
    b2 := by after_reads_simp; exact q
    a3 := by after_reads_simp; exact (h3.add (both12 h5 h2)).add (both21 q h1) }

/-- The loop starts from the logarithms of the chunks' products, its count at zero. -/
theorem entry (h : Third V D) :
    Holds (after hostOps0_10 (after hostOps0_9 V)) (fun b n => TA.log (TA.signature (D b n) 16)) ∧ Counts (after hostOps0_10 (after hostOps0_9 V)) 0 := by
  have r : M3 (after hostOps0_9 V (Proc.devRef .tc main_v65)) (fun b n s i j k => pre (fun s => g3 (D b n) s i j k) (s.val + 1)) := by after_reads_simp; exact M3.running h.a3
  have k1 : after hostOps0_9 V (Proc.devRef .tc main_v6) = V (Proc.devRef .tc main_v6) := by after_reads_simp
  have k2 : after hostOps0_9 V (Proc.devRef .tc main_v13) = V (Proc.devRef .tc main_v13) := by after_reads_simp
  have k3 : after hostOps0_9 V (Proc.devRef .tc main_v25) = V (Proc.devRef .tc main_v25) := by after_reads_simp
  have k4 : after hostOps0_9 V (Proc.devRef .tc main_v42) = V (Proc.devRef .tc main_v42) := by after_reads_simp
  have k5 : after hostOps0_9 V (Proc.devRef .tc main_v44) = V (Proc.devRef .tc main_v44) := by after_reads_simp
  have k6 : after hostOps0_9 V (Proc.devRef .tc main_v50) = V (Proc.devRef .tc main_v50) := by after_reads_simp
  have k7 : after hostOps0_9 V (Proc.devRef .tc main_v52) = V (Proc.devRef .tc main_v52) := by after_reads_simp
  have k8 : after hostOps0_9 V (Proc.devRef .tc main_v64) = V (Proc.devRef .tc main_v64) := by after_reads_simp
  generalize after hostOps0_9 V = U at *
  have h1 : M1 (U (Proc.devRef .tc main_v6)) D := k1 ▸ h.d1
  have h2 := h.d2; rw [← k2] at h2
  have h3 := h.d3; rw [← k3] at h3
  have h4 := h.d4; rw [← k4] at h4
  have h5 := h.b1; rw [← k5] at h5
  have h6 := h.a2; rw [← k6] at h6
  have h7 := h.b2; rw [← k7] at h7
  have h8 := h.a3; rw [← k8] at h8
  have q : M3 (subf (U (Proc.devRef .tc main_v65)) (U (Proc.devRef .tc main_v64))) (fun b n s i j k => s3 (D b n) s.val i j k) :=
    (r.sub h8).congr fun b n s i j k => by rw [pre_succ, add_sub_cancel_right]; rfl
  have h9 := ((h4.add (both13 h5 h3)).add (both22 h7 h2)).add (both31 q h1)
  have t1 := h1.total.congr (g := fun b n i => (TA.signature (D b n) 16).l1 i) fun b n i => by rw [signature_sums]; rfl
  have t2 := h6.total.congr (g := fun b n i j => (TA.signature (D b n) 16).l2 i j) fun b n i j => by rw [signature_sums]; rfl
  have t3 := h8.total.congr (g := fun b n i j k => (TA.signature (D b n) 16).l3 i j k) fun b n i j k => by rw [signature_sums]; rfl
  have t4 := h9.total.congr (g := fun b n i j k l => (TA.signature (D b n) 16).l4 i j k l) fun b n i j k l => by rw [signature_sums]; rfl
  have p2 := outer11 t1 t1
  have p3 := (outer12 t1 t2).add (outer21 t2 t1)
  have p4 := ((outer13 t1 t3).add (outer22 t2 t2)).add (outer31 t3 t1)
  have c3 := outer12 t1 p2
  have c4 := (outer13 t1 p3).add (outer22 t2 p2)
  have f4 := outer13 t1 c3
  refine ⟨⟨?_, ?_, ?_, ?_⟩, ?_⟩
  · after_reads_simp; exact t1
  · after_reads_simp; exact t2.sub (p2.div two (by norm_num))
  · after_reads_simp; exact (t3.sub (p3.div two (by norm_num))).add (c3.div three (by norm_num))
  · after_reads_simp
    exact ((t4.sub (p4.div two (by norm_num))).add (c4.div three (by norm_num))).sub (f4.div four (by norm_num))
  · intro i
    after_reads_simp
    rfl

end Cert.ReferenceIdeal.Entry

end
-- ==== Proof.ReferenceIdeal.Start.lean ====
module

public import proofs.«01_k».proof.Proof.ReferenceIdeal.Increments
public import proofs.«01_k».proof.Proof.ReferenceIdeal.Entry

/-! The reference from its launch to its loop. -/

@[expose] public section

set_option maxRecDepth 16384

noncomputable section

namespace Cert.ReferenceIdeal.Start

open Idealize.ShloMosaic Cert.ReferenceIdeal Cert.ReferenceIdeal.Gen Cert.ReferenceIdeal.Value Cert.ReferenceIdeal.Levels
open Cert.ReferenceIdeal.Steps Cert.ReferenceIdeal.Step Cert.ReferenceIdeal.Increments Cert.Algebra
open Idealize.ShloMosaic.TcCoe Idealize.ShloMosaic.StableHlo

/-- The increments as reals: a batch's, a chunk's, one of its steps, a letter. -/
def incr (x : FVec Ideal S8x2048x7 .f32) : Q1 := fun b n s i => (increments x (ix3 b ⟨16 * n.val + s.val, by omega⟩ i)).toReal

variable {x : FVec Ideal S8x2048x7 .f32}

theorem chunked (h : Real x) : M1 (fun i => shapeCast S8x128x16x8 (increments x) shapeCasts_S8x2048x8_S8x128x16x8 i) (incr x) := fun b n s i => by
  refine Eq.trans ?_ (increments_real h (ix3 b ⟨16 * n.val + s.val, by omega⟩ i))
  exact shapeCast_apply _ _ _ _ (by
    rw [Shape.rowMajor_val_three, Shape.rowMajor_val_four]
    show (b.val * 2048 + (16 * n.val + s.val)) * 8 + i.val = ((b.val * 128 + n.val) * 16 + s.val) * 8 + i.val; omega)

theorem read_times (V : Valuation τ sig (Elt Ideal)) :
    (after hostOps0_1 V (Proc.devRef .tc main_v0) : FVec Ideal S2048 .f32) = times (V (Proc.devRef .tc main_cst)) (V (Proc.devRef .tc main_cst_0)) := by
  after_reads_simp
  rfl
theorem read_path (V : Valuation τ sig (Elt Ideal)) :
    (after hostOps0_2 V (Proc.devRef .tc main_v3) : FVec Ideal S8x2048x8 .f32) = path (V (Proc.devRef .tc main_arg0)) (V (Proc.devRef .tc main_v0)) := by
  after_reads_simp
  rfl
theorem read_zeros (V : Valuation τ sig (Elt Ideal)) :
    (after hostOps0_2 V (Proc.devRef .tc main_v4) : FVec Ideal S8x1x8 .f32) = broadcastInDim S8x1x8 ![] bcast_S_S8x1x8 (constant (F := Ideal) S_ .f32 0x00000000#32) := by
  after_reads_simp
theorem read_diff (V : Valuation τ sig (Elt Ideal)) :
    (after hostOps0_3 V (Proc.devRef .tc main_v5) : FVec Ideal S8x2048x8 .f32) = diff (started (V (Proc.devRef .tc main_v4)) (V (Proc.devRef .tc main_v3))) := by
  after_reads_simp
  rfl

theorem read_increments (V : Valuation τ sig (Elt Ideal)) :
    (after hostOps0_3 (after hostOps0_2 (after hostOps0_1 (after hostOps0 V))) (Proc.devRef .tc main_v5) : FVec Ideal S8x2048x8 .f32)
      = increments (V (Proc.devRef .tc main_arg0)) := by
  have a0 : after hostOps0_1 (after hostOps0 V) (Proc.devRef .tc main_arg0) = V (Proc.devRef .tc main_arg0) :=
    Eq.trans (b := after hostOps0 V (Proc.devRef .tc main_arg0)) (by after_reads_simp) (by after_reads_simp)
  have c0 : after hostOps0 V (Proc.devRef .tc main_cst) = (constant S_ .f32 0x00000000#32 : FVec Ideal S_ .f32) := by after_reads_simp
  have c1 : after hostOps0 V (Proc.devRef .tc main_cst_0) = (constant S_ .f32 0x3F800000#32 : FVec Ideal S_ .f32) := by after_reads_simp
  rw [read_diff, read_path, read_zeros, read_times, a0, c0, c1]

/-- The loop's entry holds the logarithms of the chunks' products. -/
theorem start (m : (ℓ : Loc nD τ sig) → Buf (Elt Ideal) ℓ) (c : Dev nD) (e : m ((c.tc : Thread nD τ).loc main_arg0) = x) (h : Real x) :
    Holds (entryContents preI m c) (fun b n => TA.log (TA.signature (incr x b n) 16)) ∧ Counts (entryContents preI m c) 0 := by
  unfold entryContents
  simp only [preI, afterL_cons, afterL_nil]
  refine Entry.entry (Entry.third (Entry.second (Entry.powers ?_)))
  have r := read_increments (launchContents m c)
  rw [show launchContents m c (Proc.devRef .tc main_arg0) = x from e] at r
  rw [r]
  exact chunked h

end Cert.ReferenceIdeal.Start

end
-- ==== Proof.KernelIdeal.Host.lean ====
module

public import proofs.«01_k».proof.Proof.KernelIdeal.Run
public import proofs.«01_k».proof.Proof.ReferenceIdeal.Start
public import Idealize.ShloMosaic.Lib.StableHlo.ReadAt

/-! What the host's operations before the launch make of the arguments. -/

@[expose] public section

set_option maxRecDepth 16384

noncomputable section

namespace Cert.KernelIdeal.Host

open Idealize.ShloMosaic Cert.KernelIdeal Cert.KernelIdeal.Gen
open Idealize.ShloMosaic.TcCoe Idealize.ShloMosaic.StableHlo
open Cert.ReferenceIdeal.Increments (times path diff started increments Real increments_real)
open Cert.ReferenceIdeal.Start (incr)

theorem read_times (V : Valuation τ sig (Elt Ideal)) :
    (after hostOps0_1 V (Proc.devRef .tc main_v0) : FVec Ideal S2048 .f32) = times (V (Proc.devRef .tc main_cst)) (V (Proc.devRef .tc main_cst_0)) := by
  after_reads_simp
  rfl
theorem read_path (V : Valuation τ sig (Elt Ideal)) :
    (after hostOps0_2 V (Proc.devRef .tc main_v3) : FVec Ideal S8x2048x8 .f32) = path (V (Proc.devRef .tc main_arg0)) (V (Proc.devRef .tc main_v0)) := by
  after_reads_simp
  rfl
theorem read_zeros (V : Valuation τ sig (Elt Ideal)) :
    (after hostOps0_2 V (Proc.devRef .tc main_v4) : FVec Ideal S8x1x8 .f32) = broadcastInDim S8x1x8 ![] bcast_S_S8x1x8 (constant (F := Ideal) S_ .f32 0x00000000#32) := by
  after_reads_simp
theorem read_diff (V : Valuation τ sig (Elt Ideal)) :
    (after hostOps0_3 V (Proc.devRef .tc main_v5) : FVec Ideal S8x2048x8 .f32) = diff (started (V (Proc.devRef .tc main_v4)) (V (Proc.devRef .tc main_v3))) := by
  after_reads_simp
  rfl

/-- The contents before the last stretch. -/
abbrev before (V : Valuation τ sig (Elt Ideal)) : Valuation τ sig (Elt Ideal) := after hostOps0_3 (after hostOps0_2 (after hostOps0_1 (after hostOps0 V)))

theorem read_increments (V : Valuation τ sig (Elt Ideal)) :
    (before V (Proc.devRef .tc main_v5) : FVec Ideal S8x2048x8 .f32) = increments (V (Proc.devRef .tc main_arg0)) := by
  have a0 : after hostOps0_1 (after hostOps0 V) (Proc.devRef .tc main_arg0) = V (Proc.devRef .tc main_arg0) :=
    Eq.trans (b := after hostOps0 V (Proc.devRef .tc main_arg0)) (by after_reads_simp) (by after_reads_simp)
  have c0 : after hostOps0 V (Proc.devRef .tc main_cst) = (constant S_ .f32 0x00000000#32 : FVec Ideal S_ .f32) := by after_reads_simp
  have c1 : after hostOps0 V (Proc.devRef .tc main_cst_0) = (constant S_ .f32 0x3F800000#32 : FVec Ideal S_ .f32) := by after_reads_simp
  rw [before, read_diff, read_path, read_zeros, read_times, a0, c0, c1]

/-- The increments, the chunks last. -/
@[reducible] def byChunk (u : FVec Ideal S8x2048x8 .f32) : FVec Ideal S8x16x8x128 .f32 :=
  transpose S8x16x8x128 [0, 2, 3, 1] (shapeCast S8x128x16x8 u shapeCasts_S8x2048x8_S8x128x16x8) transposes_S8x128x16x8_S8x16x8x128_0_2_3_1
/-- The first layer's weights, the fourth level's last letter brought to the front. -/
@[reducible] def weights (w : FVec Ideal S4680x256 .f32) : FVec Ideal S4680x256 .f32 :=
  concatenate S4680x256 0 [⟨S584x256, extractStridedSlice S584x256 ![0, 0] w slices_S4680x256_S584x256_0_0⟩,
    ⟨S4096x256, shapeCast S4096x256 (transpose S8x8x8x8x256 [3, 0, 1, 2, 4]
      (shapeCast S8x8x8x8x256 (extractStridedSlice S4096x256 ![584, 0] w slices_S4680x256_S4096x256_584_0) shapeCasts_S4096x256_S8x8x8x8x256)
      transposes_S8x8x8x8x256_S8x8x8x8x256_3_0_1_2_4) shapeCasts_S8x8x8x8x256_S4096x256⟩] concatenates_S584x256_S4096x256_S4680x256_d0

theorem byChunk_at (u : FVec Ideal S8x2048x8 .f32) (b : Fin 8) (s : Fin 16) (a : Fin 8) (n : Fin 128) :
    byChunk u (ix4 b s a n) = u (ix3 b ⟨16 * n.val + s.val, by omega⟩ a) :=
  (transpose_apply _ _ _ _ (ix4 b n s a) (fun y => by fin_cases y <;> rfl)).trans
  (shapeCast_apply _ _ _ _ (by
    rw [Shape.rowMajor_val_three, Shape.rowMajor_val_four]
    show (b.val * 2048 + (16 * n.val + s.val)) * 8 + a.val = ((b.val * 128 + n.val) * 16 + s.val) * 8 + a.val; omega))

theorem weights_first (w : FVec Ideal S4680x256 .f32) (k : Fin 584) (q : Fin 256) :
    weights w (ix2 ⟨k.val, by omega⟩ q) = w (ix2 ⟨k.val, by omega⟩ q) :=
  (concatenate_pair_apply_left (t := S4680x256) (s₁ := S584x256) (s₂ := S4096x256) 0 _ _ concatenates_S584x256_S4096x256_S4680x256_d0 _ rfl (ix2 k q)
    (by intro y; fin_cases y <;> rfl)).trans
  (extractStridedSlice_apply _ _ _ _ _ (fun y => by
    fin_cases y
    · show k.val = 0 + k.val; omega
    · show q.val = 0 + q.val; omega))

theorem weights_fourth (w : FVec Ideal S4680x256 .f32) (j m a b : Fin 8) (q : Fin 256) :
    weights w (ix2 ⟨584 + (512 * j.val + (64 * m.val + (8 * a.val + b.val))), by omega⟩ q)
      = w (ix2 ⟨584 + (512 * m.val + (64 * a.val + (8 * b.val + j.val))), by omega⟩ q) :=
  (concatenate_pair_apply_right (t := S4680x256) (s₁ := S584x256) (s₂ := S4096x256) 0 _ _ concatenates_S584x256_S4096x256_S4680x256_d0 _ rfl rfl
    (ix2 ⟨512 * j.val + (64 * m.val + (8 * a.val + b.val)), by omega⟩ q)
    (by intro y hy; fin_cases y
        · exact absurd rfl hy
        · rfl) (by show (512 * j.val + (64 * m.val + (8 * a.val + b.val))) + 584 = 584 + (512 * j.val + (64 * m.val + (8 * a.val + b.val))); omega)).trans
  ((shapeCast_apply _ _ _ (ix5 j m a b q) (by
    rw [Shape.rowMajor_val_five, Shape.rowMajor_val_two]
    show (((j.val * 8 + m.val) * 8 + a.val) * 8 + b.val) * 256 + q.val = (512 * j.val + (64 * m.val + (8 * a.val + b.val))) * 256 + q.val; omega)).trans
  ((transpose_apply _ _ _ _ (ix5 m a b j q) (fun y => by fin_cases y <;> rfl)).trans
  ((shapeCast_apply _ _ _ (ix2 ⟨512 * m.val + (64 * a.val + (8 * b.val + j.val)), by omega⟩ q) (by
    rw [Shape.rowMajor_val_five, Shape.rowMajor_val_two]
    show (512 * m.val + (64 * a.val + (8 * b.val + j.val))) * 256 + q.val = (((m.val * 8 + a.val) * 8 + b.val) * 8 + j.val) * 256 + q.val; omega)).trans
  (extractStridedSlice_apply _ _ _ _ _ (fun y => by
    fin_cases y
    · show 584 + (512 * m.val + (64 * a.val + (8 * b.val + j.val))) = 584 + (512 * m.val + (64 * a.val + (8 * b.val + j.val))); rfl
    · show q.val = 0 + q.val; omega)))))

section
variable (m : (ℓ : Loc nD τ sig) → Buf (Elt Ideal) ℓ) (c : Dev nD)

theorem V0_eq : V0 m c = after hostOps0_4 (before fun b => m (c, b)) := rfl

theorem read_byChunk (U : Valuation τ sig (Elt Ideal)) :
    (after hostOps0_4 U (Proc.devRef .tc main_v7) : FVec Ideal S8x16x8x128 .f32) = byChunk (U (Proc.devRef .tc main_v5)) := by
  after_reads_simp
  rfl
theorem read_weights (U : Valuation τ sig (Elt Ideal)) :
    (after hostOps0_4 U (Proc.devRef .tc main_v13) : FVec Ideal S4680x256 .f32) = weights (U (Proc.devRef .tc main_arg1)) := by
  after_reads_simp
  rfl
theorem read_bias (U : Valuation τ sig (Elt Ideal)) :
    (after hostOps0_4 U (Proc.devRef .tc main_v14) : FVec Ideal S1x256 .f32) = shapeCast S1x256 (U (Proc.devRef .tc main_arg2)) shapeCasts_S256_S1x256 := by
  after_reads_simp
  rfl
theorem read_last (U : Valuation τ sig (Elt Ideal)) :
    (after hostOps0_4 U (Proc.devRef .tc main_v15) : FVec Ideal S1x1 .f32) = shapeCast S1x1 (U (Proc.devRef .tc main_arg4)) shapeCasts_S1_S1x1 := by
  after_reads_simp
  rfl

variable {x : FVec Ideal S8x2048x7 .f32}

theorem before_arg1 (V : Valuation τ sig (Elt Ideal)) : before V (Proc.devRef .tc main_arg1) = V (Proc.devRef .tc main_arg1) := by after_reads_simp
theorem before_arg2 (V : Valuation τ sig (Elt Ideal)) : before V (Proc.devRef .tc main_arg2) = V (Proc.devRef .tc main_arg2) := by after_reads_simp
theorem before_arg4 (V : Valuation τ sig (Elt Ideal)) : before V (Proc.devRef .tc main_arg4) = V (Proc.devRef .tc main_arg4) := by after_reads_simp

theorem row_at (v : FVec Ideal S256 .f32) (q : Fin 256) : shapeCast S1x256 v shapeCasts_S256_S1x256 (ix2 0 q) = v (ix1 q) :=
  shapeCast_apply _ _ _ _ (by
    rw [Shape.rowMajor_val_one, Shape.rowMajor_val_two]
    show q.val = 0 * 256 + q.val; omega)
theorem one_at (v : FVec Ideal S1 .f32) : shapeCast S1x1 v shapeCasts_S1_S1x1 (ix2 0 0) = v (ix1 0) :=
  shapeCast_apply _ _ _ _ (by rw [Shape.rowMajor_val_one, Shape.rowMajor_val_two]; rfl)

/-- The launch finds the increments, chunks last, in its first array. -/
theorem entry0 (e : m ((c.tc).loc main_arg0) = x) (h : Real x) (b : Fin 8) (s : Fin 16) (a : Fin 8) (n : Fin 128) :
    (V m c main_v7 : FVec Ideal S8x16x8x128 .f32) (ix4 b s a n) = (incr x b n s a : EReal) := by
  have r : (V m c main_v7 : FVec Ideal S8x16x8x128 .f32) = byChunk (increments x) :=
    (read_byChunk (before fun b => m (c, b))).trans (congrArg byChunk ((read_increments _).trans (congrArg increments e)))
  exact (congrFun r _).trans ((byChunk_at _ b s a n).trans (increments_real h _))
theorem entry1 : (V m c main_v13 : FVec Ideal S4680x256 .f32) = weights (m ((c.tc).loc main_arg1)) :=
  (read_weights (before fun b => m (c, b))).trans (congrArg weights (before_arg1 _))
theorem entry2 (q : Fin 256) : (V m c main_v14 : FVec Ideal S1x256 .f32) (ix2 0 q) = (m ((c.tc).loc main_arg2) : FVec Ideal S256 .f32) (ix1 q) := by
  have r : (V m c main_v14 : FVec Ideal S1x256 .f32) = shapeCast S1x256 (m ((c.tc).loc main_arg2)) shapeCasts_S256_S1x256 :=
    (read_bias (before fun b => m (c, b))).trans (congrArg (fun v => shapeCast S1x256 v shapeCasts_S256_S1x256) (before_arg2 _))
  exact (congrFun r _).trans (row_at _ q)
theorem entry4 : (V m c main_v15 : FVec Ideal S1x1 .f32) (ix2 0 0) = (m ((c.tc).loc main_arg4) : FVec Ideal S1 .f32) (ix1 0) := by
  have r : (V m c main_v15 : FVec Ideal S1x1 .f32) = shapeCast S1x1 (m ((c.tc).loc main_arg4)) shapeCasts_S1_S1x1 :=
    (read_last (before fun b => m (c, b))).trans (congrArg (fun v => shapeCast S1x1 v shapeCasts_S1_S1x1) (before_arg4 _))
  exact (congrFun r _).trans (one_at _)
end

end Cert.KernelIdeal.Host

end
-- ==== Proof.KernelIdeal.Calc.lean ====
module

public import proofs.«01_k».proof.Proof.KernelIdeal.Body
public import proofs.«01_k».proof.Proof.Algebra
public import Idealize.ShloMosaic.Lib.Pointwise
public import Idealize.ShloMosaic.Lib.WordCmp
public import Idealize.ShloMosaic.Lib.Pipeline.Value

/-! Arrays of real numbers: which reals each of the kernel's operations makes of given ones. -/

@[expose] public section

set_option maxRecDepth 16384

noncomputable section

namespace Cert.KernelIdeal.Calc

open Idealize.ShloMosaic Cert.KernelIdeal Cert.KernelIdeal.Gen Cert.Algebra

/-- Row `8 a + b` of sixty-four. -/
abbrev row (a b : Fin 8) : Fin 64 := ⟨8 * a.val + b.val, by omega⟩

/-- The array holds these reals. -/
def Is1 (v : FVec Ideal S1x128 .f32) (f : Fin 128 → ℝ) : Prop := ∀ n, v (ix2 0 n) = ((f n : ℝ) : EReal)
def Is8 (v : FVec Ideal S8x128 .f32) (f : Fin 8 → Fin 128 → ℝ) : Prop := ∀ a n, v (ix2 a n) = ((f a n : ℝ) : EReal)
def Is64 (v : FVec Ideal S64x128 .f32) (f : Fin 8 → Fin 8 → Fin 128 → ℝ) : Prop :=
  ∀ a b n, v (ix2 (row a b) n) = ((f a b n : ℝ) : EReal)
def Is88 (v : FVec Ideal S8x8x128 .f32) (f : Fin 8 → Fin 8 → Fin 128 → ℝ) : Prop :=
  ∀ a b n, v (ix3 a b n) = ((f a b n : ℝ) : EReal)

theorem Is8.congr {v : FVec Ideal S8x128 .f32} {f g : Fin 8 → Fin 128 → ℝ} (h : Is8 v f) (e : ∀ a n, f a n = g a n) : Is8 v g :=
  fun a n => by rw [h a n, e]
theorem Is64.congr {v : FVec Ideal S64x128 .f32} {f g : Fin 8 → Fin 8 → Fin 128 → ℝ} (h : Is64 v f) (e : ∀ a b n, f a b n = g a b n) : Is64 v g :=
  fun a b n => by rw [h a b n, e]

section ops
variable {v w : FVec Ideal S8x128 .f32} {f g : Fin 8 → Fin 128 → ℝ}
theorem Is8.add (hv : Is8 v f) (hw : Is8 w g) : Is8 (addf v w) (fun a n => f a n + g a n) := fun a n => by
  pointwise; rw [hv a n, hw a n]; norm_cast
theorem Is8.mul (hv : Is8 v f) (hw : Is8 w g) : Is8 (mulf v w) (fun a n => f a n * g a n) := fun a n => by
  pointwise; rw [hv a n, hw a n]; norm_cast
end ops

section ops
variable {v w : FVec Ideal S64x128 .f32} {f g : Fin 8 → Fin 8 → Fin 128 → ℝ}
theorem Is64.add (hv : Is64 v f) (hw : Is64 w g) : Is64 (addf v w) (fun a b n => f a b n + g a b n) := fun a b n => by
  pointwise; rw [hv a b n, hw a b n]; norm_cast
theorem Is64.sub (hv : Is64 v f) (hw : Is64 w g) : Is64 (subf v w) (fun a b n => f a b n - g a b n) := fun a b n => by
  pointwise; rw [hv a b n, hw a b n]; norm_cast
theorem Is64.mul (hv : Is64 v f) (hw : Is64 w g) : Is64 (mulf v w) (fun a b n => f a b n * g a b n) := fun a b n => by
  pointwise; rw [hv a b n, hw a b n]; norm_cast
end ops

theorem Is1.mul {v w : FVec Ideal S1x128 .f32} {f g : Fin 128 → ℝ} (hv : Is1 v f) (hw : Is1 w g) : Is1 (mulf v w) (fun n => f n * g n) := fun n => by
  pointwise; rw [hv n, hw n]; norm_cast

/-- One row of eight. -/
theorem Is8.row {v : FVec Ideal S8x128 .f32} {f : Fin 8 → Fin 128 → ℝ} (h : Is8 v f) (m : Fin 8)
    {p : S8x128.Slices ![m.val, 0] S1x128} : Is1 (extractStridedSlice S1x128 ![m.val, 0] v p) (fun n => f m n) := fun n => by
  rw [← h m n]; pointwise
  try congr 1

/-- A row at every row. -/
theorem Is1.rows {v : FVec Ideal S1x128 .f32} {f : Fin 128 → ℝ} (h : Is1 v f) {p : S1x128.Broadcasts S64x128} :
    Is64 (broadcastTo S64x128 v p) (fun _ _ n => f n) := fun a b n => by
  rw [← h n]; pointwise
theorem Is1.rows8 {v : FVec Ideal S1x128 .f32} {f : Fin 128 → ℝ} (h : Is1 v f) {p : S1x128.Broadcasts S8x128} :
    Is8 (broadcastTo S8x128 v p) (fun _ n => f n) := fun a n => by
  rw [← h n]; pointwise

/-- Eight rows of sixty-four. -/
theorem Is64.block {v : FVec Ideal S64x128 .f32} {f : Fin 8 → Fin 8 → Fin 128 → ℝ} (h : Is64 v f) (m : Fin 8)
    {p : S64x128.Slices ![8 * m.val, 0] S8x128} : Is8 (extractStridedSlice S8x128 ![8 * m.val, 0] v p) (fun b n => f m b n) := fun b n => by
  rw [← h m b n]; pointwise

theorem Is88.fold {v : FVec Ideal S8x8x128 .f32} {f : Fin 8 → Fin 8 → Fin 128 → ℝ} (h : Is88 v f) {p : S8x8x128.ShapeCasts S64x128} :
    Is64 (shapeCast S64x128 v p) f := fun a b n => by
  rw [← h a b n]; pointwise
  congr 2 <;> (apply Fin.ext; dsimp only; omega)

theorem Is64.split {v : FVec Ideal S64x128 .f32} {f : Fin 8 → Fin 8 → Fin 128 → ℝ} (h : Is64 v f) {p : S64x128.ShapeCasts S8x8x128} :
    Is88 (shapeCast S8x8x128 v p) f := fun a b n => by
  rw [← h a b n]; pointwise
  congr 2; apply Fin.ext; dsimp only; omega

/-- The products of the rows of the one with the rows of the other. -/
theorem Is8.outer {v w : FVec Ideal S8x128 .f32} {f g : Fin 8 → Fin 128 → ℝ} (hv : Is8 v f) (hw : Is8 w g)
    {p : S8x128.ShapeCasts S8x1x128} {q : S8x128.ShapeCasts S1x8x128} {r : S8x1x128.Broadcasts S8x8x128}
    {s : S1x8x128.Broadcasts S8x8x128} {t : S8x8x128.ShapeCasts S64x128} :
    Is64 (shapeCast S64x128 (mulf (broadcastTo S8x8x128 (shapeCast S8x1x128 v p) r) (broadcastTo S8x8x128 (shapeCast S1x8x128 w q) s)) t)
      (fun a b n => f a n * g b n) :=
  Is88.fold fun a b n => by
    pointwise
    rw [EReal.coe_mul, ← hv a n, ← hw b n]

/-- The two letters exchanged. -/
theorem Is64.swap {v : FVec Ideal S64x128 .f32} {f : Fin 8 → Fin 8 → Fin 128 → ℝ} (h : Is64 v f) {p : S64x128.ShapeCasts S8x8x128}
    {q : S8x8x128.Transposes [1, 0, 2] S8x8x128} {r : S8x8x128.ShapeCasts S64x128} :
    Is64 (shapeCast S64x128 (transpose S8x8x128 [1, 0, 2] (shapeCast S8x8x128 v p) q) r) (fun a b n => f b a n) :=
  Is88.fold fun a b n => by
    rw [← Is64.split h (p := p) b a n]; pointwise

/-- Eight arrays one under the other. -/
theorem Is64.stack {u : Fin 8 → FVec Ideal S8x128 .f32} {f : Fin 8 → Fin 8 → Fin 128 → ℝ} (h : ∀ a, Is8 (u a) (f a))
    {c : Shape.Concatenates ((List.ofFn fun a => (⟨S8x128, u a⟩ : (s : Shape) × (s.Idx → EReal))).map (·.1)) S64x128 0} :
    Is64 (concatenate S64x128 0 (List.ofFn fun a => ⟨S8x128, u a⟩) c) f := fun a b n => by
  rw [concatenate_ofFn_apply (s₁ := S8x128) (t := S64x128) 0 u c rfl 8 rfl (ix2 (Calc.row a b) n) a
    (by show (8 * a.val + b.val) / 8 = a.val; omega) (ix2 b n)
    (by show b.val = (8 * a.val + b.val) % 8; omega)
    (by intro x hx; fin_cases x
        · exact absurd rfl hx
        · rfl)]
  exact h a b n

theorem eight (u : Fin 8 → FVec Ideal S8x128 .f32) :
    Shape.Concatenates ((List.ofFn fun a => (⟨S8x128, u a⟩ : (s : Shape) × (s.Idx → EReal))).map (·.1)) S64x128 0 :=
  show Shape.Concatenates [S8x128, S8x128, S8x128, S8x128, S8x128, S8x128, S8x128, S8x128] S64x128 0 by decide

theorem column_slices : ∀ j : Fin 8, S8x8x128.Slices ![0, j.val, 0] S8x1x128 := by decide
theorem row_slices : ∀ j : Fin 8, S8x128.Slices ![j.val, 0] S1x128 := by decide
theorem block_slices : ∀ j : Fin 8, S64x128.Slices ![8 * j.val, 0] S8x128 := by decide

/-- The rows of one last letter, from eight arrays. -/
@[reducible] def column (t : Fin 8 → FVec Ideal S64x128 .f32) (j : Fin 8) : FVec Ideal S64x128 .f32 :=
  concatenate S64x128 0 (List.ofFn fun m => ⟨S8x128, shapeCast S8x128 (extractStridedSlice S8x1x128 ![0, j.val, 0]
    (shapeCast S8x8x128 (t m) shapeCasts_S64x128_S8x8x128) (column_slices j)) shapeCasts_S8x1x128_S8x128⟩) (eight _)

theorem Is64.column {t : Fin 8 → FVec Ideal S64x128 .f32} {f : Fin 8 → Fin 8 → Fin 8 → Fin 128 → ℝ} (h : ∀ m, Is64 (t m) (f m)) (j : Fin 8) :
    Is64 (Calc.column t j) (fun a b n => f a b j n) :=
  Is64.stack fun m b n => by
    rw [← Is64.split (h m) (p := shapeCasts_S64x128_S8x8x128) b j n]; pointwise

theorem word (k : Fin k0_t2_loop.trips) : (Scalar.shli 1#32 (Scf.iv 0#32 1#32 k.val)).toNat = 2 ^ k.val := by
  revert k; decide

theorem flag (k : Fin k0_t2_loop.trips) (n : Fin 128) :
    (BitVec.setWidth 32 (IntOp.cmpi CmpIPredicate.sge (BitVec.ofNat 32 n.val) (Scalar.shli (1#32) (Scf.iv 0#32 1#32 k.val)))).toInt
      = if 2 ^ k.val ≤ n.val then 1 else 0 := by
  revert k n; decide +kernel

/-- Which lanes the reach leaves. -/
theorem Is1.mask (k : Fin k0_t2_loop.trips) {p} :
    Is1 (sitofp .f32 (extui 32 (cmpi .sge Body.lanes (broadcast S1x128 (Scalar.shli 1#32 (Scf.iv 0#32 1#32 k.val)))) p))
      (fun n => if 2 ^ k.val ≤ n.val then 1 else 0) := fun n => by
  pointwise [Body.lanes]
  rw [show ∀ w : BitVec 32, FloatOps.sitofp (F := Ideal) FTy.f32 w = (((w.toInt : ℤ) : ℝ) : EReal) from fun _ => rfl, flag]
  split <;> norm_num

/-- A row turned by the reach, what comes round the end blotted out. -/
theorem turned {x : Fin 128 → EReal} {f : Fin 128 → ℝ} (hx : ∀ n, x n = ((f n : ℝ) : EReal)) (k : Fin k0_t2_loop.trips) (n : Fin 128)
    {h : (n.val + 128 - (Scalar.shli (1#32) (Scf.iv 0#32 1#32 k.val)).toNat % 128) % 128 < 128} :
    x ⟨(n.val + 128 - (Scalar.shli (1#32) (Scf.iv 0#32 1#32 k.val)).toNat % 128) % 128, h⟩
        * (((if 2 ^ k.val ≤ n.val then 1 else 0 : ℝ)) : EReal)
      = ((if h : 2 ^ k.val ≤ n.val then f ⟨n.val - 2 ^ k.val, lt_of_le_of_lt (Nat.sub_le _ _) n.isLt⟩ else 0 : ℝ) : EReal) := by
  rw [hx]
  by_cases hk : 2 ^ k.val ≤ n.val
  · rw [dif_pos hk, if_pos hk, EReal.coe_one, mul_one]
    refine congrArg (fun z => ((f z : ℝ) : EReal)) (Fin.ext ?_)
    show (n.val + 128 - (Scalar.shli (1#32) (Scf.iv 0#32 1#32 k.val)).toNat % 128) % 128 = n.val - 2 ^ k.val
    rw [word]
    have := n.isLt
    generalize 2 ^ k.val = d at *
    omega
  · rw [dif_neg hk, if_neg hk]; norm_num

theorem Is8.shifted {v : FVec Ideal S8x128 .f32} {f : Fin 8 → Fin 128 → ℝ} (hv : Is8 v f) {w : FVec Ideal S1x128 .f32} (k : Fin k0_t2_loop.trips)
    (hw : Is1 w (fun n => if 2 ^ k.val ≤ n.val then 1 else 0)) {p : S8x128.Rotates 1 none} {q : S1x128.Broadcasts S8x128} :
    Is8 (mulf (dynamicRotate 1 (Scalar.shli 1#32 (Scf.iv 0#32 1#32 k.val)) none v p) (broadcastTo S8x128 w q))
      (fun a n => if h : 2 ^ k.val ≤ n.val then f a ⟨n.val - 2 ^ k.val, lt_of_le_of_lt (Nat.sub_le _ _) n.isLt⟩ else 0) := fun a n => by
  pointwise
  rw [hw n]
  exact turned (x := fun n => v (ix2 a n)) (hv a) k n

theorem Is64.shifted {v : FVec Ideal S64x128 .f32} {f : Fin 8 → Fin 8 → Fin 128 → ℝ} (hv : Is64 v f) {w : FVec Ideal S1x128 .f32} (k : Fin k0_t2_loop.trips)
    (hw : Is1 w (fun n => if 2 ^ k.val ≤ n.val then 1 else 0)) {p : S64x128.Rotates 1 none} {q : S1x128.Broadcasts S64x128} :
    Is64 (mulf (dynamicRotate 1 (Scalar.shli 1#32 (Scf.iv 0#32 1#32 k.val)) none v p) (broadcastTo S64x128 w q))
      (fun a b n => if h : 2 ^ k.val ≤ n.val then f a b ⟨n.val - 2 ^ k.val, lt_of_le_of_lt (Nat.sub_le _ _) n.isLt⟩ else 0) := fun a b n => by
  pointwise
  rw [hw n]
  exact turned (x := fun n => v (ix2 (Calc.row a b) n)) (hv a b) k n

/-- The constants the kernel multiplies by. -/
theorem half : FloatOps.ofBits (F := Ideal) .f32 0x3F000000#32 = ((1 / 2 : ℝ) : EReal) := by
  show Ideal.ofBits _ _ = _
  simp [Ideal.ofBits, Ideal.ieee, -EReal.coe_mul]; norm_num
theorem quarter : FloatOps.ofBits (F := Ideal) .f32 0x3E800000#32 = ((1 / 4 : ℝ) : EReal) := by
  show Ideal.ofBits _ _ = _
  simp [Ideal.ofBits, Ideal.ieee, -EReal.coe_mul]; norm_num
theorem third : Named.named (F := Ideal) (φ := .f32) κ "third" 0x3EAAAAAB#32 = ((1 / 3 : ℝ) : EReal) :=
  IdealRules.named_const.ideal_named_scalar _ _ _ _ rfl

theorem Is8.scale {v : FVec Ideal S8x128 .f32} {f : Fin 8 → Fin 128 → ℝ} (hv : Is8 v f) {c : EReal} {r : ℝ} (hc : c = (r : EReal)) :
    Is8 (mulf v (broadcast S8x128 (c : Ideal .f32))) (fun a n => f a n * r) := fun a n => by
  pointwise; rw [hv a n, hc]; norm_cast

theorem Is64.scale {v : FVec Ideal S64x128 .f32} {f : Fin 8 → Fin 8 → Fin 128 → ℝ} (hv : Is64 v f) {c : EReal} {r : ℝ} (hc : c = (r : EReal)) :
    Is64 (mulf v (broadcast S64x128 (c : Ideal .f32))) (fun a b n => f a b n * r) := fun a b n => by
  pointwise; rw [hv a b n, hc]; norm_cast

theorem Is64.scaleLeft {v : FVec Ideal S64x128 .f32} {f : Fin 8 → Fin 8 → Fin 128 → ℝ} (hv : Is64 v f) {c : EReal} {r : ℝ} (hc : c = (r : EReal)) :
    Is64 (mulf (broadcast S64x128 (c : Ideal .f32)) v) (fun a b n => r * f a b n) := fun a b n => by
  pointwise; rw [hv a b n, hc]; norm_cast

end Cert.KernelIdeal.Calc

end
-- ==== Proof.KernelIdeal.Round.lean ====
module

public import proofs.«01_k».proof.Proof.KernelIdeal.Calc

/-! One round of the scan: the element of every lane multiplied from the left by the one the round's reach before it. -/

@[expose] public section

set_option maxRecDepth 16384

noncomputable section

namespace Cert.KernelIdeal.Calc

open Idealize.ShloMosaic Cert.KernelIdeal Cert.KernelIdeal.Gen Cert.KernelIdeal.Scan Cert.Algebra

abbrev V8 : Type := FVec Ideal S8x128 .f32
abbrev V64 : Type := FVec Ideal S64x128 .f32

/-- The third level of what is carried, by first letter. -/
abbrev third3 (x : Carried Ideal) : Fin 8 → V64
  | ⟨0, _⟩ => x.2.2.1
  | ⟨1, _⟩ => x.2.2.2.1
  | ⟨2, _⟩ => x.2.2.2.2.1
  | ⟨3, _⟩ => x.2.2.2.2.2.1
  | ⟨4, _⟩ => x.2.2.2.2.2.2.1
  | ⟨5, _⟩ => x.2.2.2.2.2.2.2.1
  | ⟨6, _⟩ => x.2.2.2.2.2.2.2.2.1
  | ⟨7, _⟩ => x.2.2.2.2.2.2.2.2.2.1

/-- The fourth level of what is carried, by last letter and first. -/
abbrev fourth4 (x : Carried Ideal) : Fin 8 → Fin 8 → V64
  | ⟨0, _⟩, ⟨0, _⟩ => x.2.2.2.2.2.2.2.2.2.2.1
  | ⟨0, _⟩, ⟨1, _⟩ => x.2.2.2.2.2.2.2.2.2.2.2.1
  | ⟨0, _⟩, ⟨2, _⟩ => x.2.2.2.2.2.2.2.2.2.2.2.2.1
  | ⟨0, _⟩, ⟨3, _⟩ => x.2.2.2.2.2.2.2.2.2.2.2.2.2.1
  | ⟨0, _⟩, ⟨4, _⟩ => x.2.2.2.2.2.2.2.2.2.2.2.2.2.2.1
  | ⟨0, _⟩, ⟨5, _⟩ => x.2.2.2.2.2.2.2.2.2.2.2.2.2.2.2.1
  | ⟨0, _⟩, ⟨6, _⟩ => x.2.2.2.2.2.2.2.2.2.2.2.2.2.2.2.2.1
  | ⟨0, _⟩, ⟨7, _⟩ => x.2.2.2.2.2.2.2.2.2.2.2.2.2.2.2.2.2.1
  | ⟨1, _⟩, ⟨0, _⟩ => x.2.2.2.2.2.2.2.2.2.2.2.2.2.2.2.2.2.2.1
  | ⟨1, _⟩, ⟨1, _⟩ => x.2.2.2.2.2.2.2.2.2.2.2.2.2.2.2.2.2.2.2.1
  | ⟨1, _⟩, ⟨2, _⟩ => x.2.2.2.2.2.2.2.2.2.2.2.2.2.2.2.2.2.2.2.2.1
  | ⟨1, _⟩, ⟨3, _⟩ => x.2.2.2.2.2.2.2.2.2.2.2.2.2.2.2.2.2.2.2.2.2.1
  | ⟨1, _⟩, ⟨4, _⟩ => x.2.2.2.2.2.2.2.2.2.2.2.2.2.2.2.2.2.2.2.2.2.2.1
  | ⟨1, _⟩, ⟨5, _⟩ => x.2.2.2.2.2.2.2.2.2.2.2.2.2.2.2.2.2.2.2.2.2.2.2.1
  | ⟨1, _⟩, ⟨6, _⟩ => x.2.2.2.2.2.2.2.2.2.2.2.2.2.2.2.2.2.2.2.2.2.2.2.2.1
  | ⟨1, _⟩, ⟨7, _⟩ => x.2.2.2.2.2.2.2.2.2.2.2.2.2.2.2.2.2.2.2.2.2.2.2.2.2.1
  | ⟨2, _⟩, ⟨0, _⟩ => x.2.2.2.2.2.2.2.2.2.2.2.2.2.2.2.2.2.2.2.2.2.2.2.2.2.2.1
  | ⟨2, _⟩, ⟨1, _⟩ => x.2.2.2.2.2.2.2.2.2.2.2.2.2.2.2.2.2.2.2.2.2.2.2.2.2.2.2.1
  | ⟨2, _⟩, ⟨2, _⟩ => x.2.2.2.2.2.2.2.2.2.2.2.2.2.2.2.2.2.2.2.2.2.2.2.2.2.2.2.2.1
  | ⟨2, _⟩, ⟨3, _⟩ => x.2.2.2.2.2.2.2.2.2.2.2.2.2.2.2.2.2.2.2.2.2.2.2.2.2.2.2.2.2.1
  | ⟨2, _⟩, ⟨4, _⟩ => x.2.2.2.2.2.2.2.2.2.2.2.2.2.2.2.2.2.2.2.2.2.2.2.2.2.2.2.2.2.2.1
  | ⟨2, _⟩, ⟨5, _⟩ => x.2.2.2.2.2.2.2.2.2.2.2.2.2.2.2.2.2.2.2.2.2.2.2.2.2.2.2.2.2.2.2.1
  | ⟨2, _⟩, ⟨6, _⟩ => x.2.2.2.2.2.2.2.2.2.2.2.2.2.2.2.2.2.2.2.2.2.2.2.2.2.2.2.2.2.2.2.2.1
  | ⟨2, _⟩, ⟨7, _⟩ => x.2.2.2.2.2.2.2.2.2.2.2.2.2.2.2.2.2.2.2.2.2.2.2.2.2.2.2.2.2.2.2.2.2.1
  | ⟨3, _⟩, ⟨0, _⟩ => x.2.2.2.2.2.2.2.2.2.2.2.2.2.2.2.2.2.2.2.2.2.2.2.2.2.2.2.2.2.2.2.2.2.2.1
  | ⟨3, _⟩, ⟨1, _⟩ => x.2.2.2.2.2.2.2.2.2.2.2.2.2.2.2.2.2.2.2.2.2.2.2.2.2.2.2.2.2.2.2.2.2.2.2.1
  | ⟨3, _⟩, ⟨2, _⟩ => x.2.2.2.2.2.2.2.2.2.2.2.2.2.2.2.2.2.2.2.2.2.2.2.2.2.2.2.2.2.2.2.2.2.2.2.2.1
  | ⟨3, _⟩, ⟨3, _⟩ => x.2.2.2.2.2.2.2.2.2.2.2.2.2.2.2.2.2.2.2.2.2.2.2.2.2.2.2.2.2.2.2.2.2.2.2.2.2.1
  | ⟨3, _⟩, ⟨4, _⟩ => x.2.2.2.2.2.2.2.2.2.2.2.2.2.2.2.2.2.2.2.2.2.2.2.2.2.2.2.2.2.2.2.2.2.2.2.2.2.2.1
  | ⟨3, _⟩, ⟨5, _⟩ => x.2.2.2.2.2.2.2.2.2.2.2.2.2.2.2.2.2.2.2.2.2.2.2.2.2.2.2.2.2.2.2.2.2.2.2.2.2.2.2.1
  | ⟨3, _⟩, ⟨6, _⟩ => x.2.2.2.2.2.2.2.2.2.2.2.2.2.2.2.2.2.2.2.2.2.2.2.2.2.2.2.2.2.2.2.2.2.2.2.2.2.2.2.2.1
  | ⟨3, _⟩, ⟨7, _⟩ => x.2.2.2.2.2.2.2.2.2.2.2.2.2.2.2.2.2.2.2.2.2.2.2.2.2.2.2.2.2.2.2.2.2.2.2.2.2.2.2.2.2.1
  | ⟨4, _⟩, ⟨0, _⟩ => x.2.2.2.2.2.2.2.2.2.2.2.2.2.2.2.2.2.2.2.2.2.2.2.2.2.2.2.2.2.2.2.2.2.2.2.2.2.2.2.2.2.2.1
  | ⟨4, _⟩, ⟨1, _⟩ => x.2.2.2.2.2.2.2.2.2.2.2.2.2.2.2.2.2.2.2.2.2.2.2.2.2.2.2.2.2.2.2.2.2.2.2.2.2.2.2.2.2.2.2.1
  | ⟨4, _⟩, ⟨2, _⟩ => x.2.2.2.2.2.2.2.2.2.2.2.2.2.2.2.2.2.2.2.2.2.2.2.2.2.2.2.2.2.2.2.2.2.2.2.2.2.2.2.2.2.2.2.2.1
  | ⟨4, _⟩, ⟨3, _⟩ => x.2.2.2.2.2.2.2.2.2.2.2.2.2.2.2.2.2.2.2.2.2.2.2.2.2.2.2.2.2.2.2.2.2.2.2.2.2.2.2.2.2.2.2.2.2.1
  | ⟨4, _⟩, ⟨4, _⟩ => x.2.2.2.2.2.2.2.2.2.2.2.2.2.2.2.2.2.2.2.2.2.2.2.2.2.2.2.2.2.2.2.2.2.2.2.2.2.2.2.2.2.2.2.2.2.2.1
  | ⟨4, _⟩, ⟨5, _⟩ => x.2.2.2.2.2.2.2.2.2.2.2.2.2.2.2.2.2.2.2.2.2.2.2.2.2.2.2.2.2.2.2.2.2.2.2.2.2.2.2.2.2.2.2.2.2.2.2.1
  | ⟨4, _⟩, ⟨6, _⟩ => x.2.2.2.2.2.2.2.2.2.2.2.2.2.2.2.2.2.2.2.2.2.2.2.2.2.2.2.2.2.2.2.2.2.2.2.2.2.2.2.2.2.2.2.2.2.2.2.2.1
  | ⟨4, _⟩, ⟨7, _⟩ => x.2.2.2.2.2.2.2.2.2.2.2.2.2.2.2.2.2.2.2.2.2.2.2.2.2.2.2.2.2.2.2.2.2.2.2.2.2.2.2.2.2.2.2.2.2.2.2.2.2.1
  | ⟨5, _⟩, ⟨0, _⟩ => x.2.2.2.2.2.2.2.2.2.2.2.2.2.2.2.2.2.2.2.2.2.2.2.2.2.2.2.2.2.2.2.2.2.2.2.2.2.2.2.2.2.2.2.2.2.2.2.2.2.2.1
  | ⟨5, _⟩, ⟨1, _⟩ => x.2.2.2.2.2.2.2.2.2.2.2.2.2.2.2.2.2.2.2.2.2.2.2.2.2.2.2.2.2.2.2.2.2.2.2.2.2.2.2.2.2.2.2.2.2.2.2.2.2.2.2.1
  | ⟨5, _⟩, ⟨2, _⟩ => x.2.2.2.2.2.2.2.2.2.2.2.2.2.2.2.2.2.2.2.2.2.2.2.2.2.2.2.2.2.2.2.2.2.2.2.2.2.2.2.2.2.2.2.2.2.2.2.2.2.2.2.2.1
  | ⟨5, _⟩, ⟨3, _⟩ => x.2.2.2.2.2.2.2.2.2.2.2.2.2.2.2.2.2.2.2.2.2.2.2.2.2.2.2.2.2.2.2.2.2.2.2.2.2.2.2.2.2.2.2.2.2.2.2.2.2.2.2.2.2.1
  | ⟨5, _⟩, ⟨4, _⟩ => x.2.2.2.2.2.2.2.2.2.2.2.2.2.2.2.2.2.2.2.2.2.2.2.2.2.2.2.2.2.2.2.2.2.2.2.2.2.2.2.2.2.2.2.2.2.2.2.2.2.2.2.2.2.2.1
  | ⟨5, _⟩, ⟨5, _⟩ => x.2.2.2.2.2.2.2.2.2.2.2.2.2.2.2.2.2.2.2.2.2.2.2.2.2.2.2.2.2.2.2.2.2.2.2.2.2.2.2.2.2.2.2.2.2.2.2.2.2.2.2.2.2.2.2.1
  | ⟨5, _⟩, ⟨6, _⟩ => x.2.2.2.2.2.2.2.2.2.2.2.2.2.2.2.2.2.2.2.2.2.2.2.2.2.2.2.2.2.2.2.2.2.2.2.2.2.2.2.2.2.2.2.2.2.2.2.2.2.2.2.2.2.2.2.2.1
  | ⟨5, _⟩, ⟨7, _⟩ => x.2.2.2.2.2.2.2.2.2.2.2.2.2.2.2.2.2.2.2.2.2.2.2.2.2.2.2.2.2.2.2.2.2.2.2.2.2.2.2.2.2.2.2.2.2.2.2.2.2.2.2.2.2.2.2.2.2.1
  | ⟨6, _⟩, ⟨0, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨6, _⟩, ⟨1, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨6, _⟩, ⟨2, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨6, _⟩, ⟨3, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨6, _⟩, ⟨4, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨6, _⟩, ⟨5, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨6, _⟩, ⟨6, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨6, _⟩, ⟨7, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨7, _⟩, ⟨0, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨7, _⟩, ⟨1, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨7, _⟩, ⟨2, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨7, _⟩, ⟨3, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨7, _⟩, ⟨4, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨7, _⟩, ⟨5, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨7, _⟩, ⟨6, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
  | ⟨7, _⟩, ⟨7, _⟩ => x.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2

/-- The lanes hold these elements. -/
structure Rep (G : Fin 128 → TA) (x : Carried Ideal) : Prop where
  l1 : Is8 x.1 fun a n => (G n).l1 a
  l2 : Is64 x.2.1 fun a b n => (G n).l2 a b
  l3 : ∀ m, Is64 (third3 x m) fun a b n => (G n).l3 m a b
  l4 : ∀ j m, Is64 (fourth4 x j m) fun a b n => (G n).l4 m a b j

/-- Products of rows. -/
@[reducible] def tp (v w : V8) : V64 :=
  shapeCast S64x128 (mulf (broadcastTo S8x8x128 (shapeCast S8x1x128 v shapeCasts_S8x128_S8x1x128) broadcasts_S8x1x128_S8x8x128)
    (broadcastTo S8x8x128 (shapeCast S1x8x128 w shapeCasts_S8x128_S1x8x128) broadcasts_S1x8x128_S8x8x128)) shapeCasts_S8x8x128_S64x128
/-- The two letters exchanged. -/
@[reducible] def swapped (v : V64) : V64 :=
  shapeCast S64x128 (transpose S8x8x128 [1, 0, 2] (shapeCast S8x8x128 v shapeCasts_S64x128_S8x8x128) transposes_S8x8x128_p1_0_2_S8x8x128)
    shapeCasts_S8x8x128_S64x128
/-- One row of eight, at every row. -/
@[reducible] def rowOf (v : V8) (m : Fin 8) : V64 := broadcastTo S64x128 (extractStridedSlice S1x128 ![m.val, 0] v (row_slices m)) broadcasts_S1x128_S64x128
/-- Eight rows of sixty-four. -/
@[reducible] def blockOf (v : V64) (m : Fin 8) : V8 := extractStridedSlice S8x128 ![8 * m.val, 0] v (block_slices m)

theorem Is8.tp {v w : V8} {f g : Fin 8 → Fin 128 → ℝ} (hv : Is8 v f) (hw : Is8 w g) : Is64 (Calc.tp v w) (fun a b n => f a n * g b n) := hv.outer hw
theorem Is64.swapped {v : V64} {f : Fin 8 → Fin 8 → Fin 128 → ℝ} (h : Is64 v f) : Is64 (Calc.swapped v) (fun a b n => f b a n) := h.swap
theorem Is8.rowOf {v : V8} {f : Fin 8 → Fin 128 → ℝ} (h : Is8 v f) (m : Fin 8) : Is64 (Calc.rowOf v m) (fun _ _ n => f m n) := (h.row m).rows
theorem Is64.blockOf {v : V64} {f : Fin 8 → Fin 8 → Fin 128 → ℝ} (h : Is64 v f) (m : Fin 8) : Is8 (Calc.blockOf v m) (fun b n => f m b n) := h.block m

section
variable (k : Fin k0_t2_loop.trips) (x : Carried Ideal)

/-- The round's mask. -/
@[reducible] def maskOf : FVec Ideal S1x128 .f32 :=
  sitofp .f32 (extui 32 (cmpi .sge Body.lanes (broadcast S1x128 (Scalar.shli 1#32 (Scf.iv 0#32 1#32 k.val)))) (by decide))
@[reducible] def shifted8 (v : V8) : V8 :=
  mulf (dynamicRotate 1 (Scalar.shli 1#32 (Scf.iv 0#32 1#32 k.val)) none v rotates_S8x128_d1) (broadcastTo S8x128 (maskOf k) broadcasts_S1x128_S8x128)
@[reducible] def shifted64 (v : V64) : V64 :=
  mulf (dynamicRotate 1 (Scalar.shli 1#32 (Scf.iv 0#32 1#32 k.val)) none v rotates_S64x128_d1) (broadcastTo S64x128 (maskOf k) broadcasts_S1x128_S64x128)

@[reducible] def round2 : V64 := addf (addf (shifted64 k x.2.1) x.2.1) (tp (shifted8 k x.1) x.1)
@[reducible] def round3 (m : Fin 8) : V64 :=
  addf (addf (addf (shifted64 k (third3 x m)) (third3 x m)) (mulf (rowOf (shifted8 k x.1) m) x.2.1)) (tp (blockOf (shifted64 k x.2.1) m) x.1)
@[reducible] def round4 (j m : Fin 8) : V64 :=
  addf (addf (addf (addf (shifted64 k (fourth4 x j m)) (fourth4 x j m)) (mulf (rowOf (shifted8 k x.1) m) (column (third3 x) j)))
    (tp (blockOf (shifted64 k x.2.1) m) (blockOf (swapped x.2.1) j))) (mulf (shifted64 k (third3 x m)) (rowOf x.1 j))

theorem round_l1 : ((Scan.round (F := Ideal)).1 Body.lanes k x).1 = addf (shifted8 k x.1) x.1 := by
  unfold Scan.round; exact rfl
theorem round_l2 : ((Scan.round (F := Ideal)).1 Body.lanes k x).2.1 = round2 k x := by
  unfold Scan.round; exact rfl
theorem round_l3 (m : Fin 8) : third3 ((Scan.round (F := Ideal)).1 Body.lanes k x) m = round3 k x m := by
  unfold Scan.round; fin_cases m <;> exact rfl
theorem round_l4 (j m : Fin 8) : fourth4 ((Scan.round (F := Ideal)).1 Body.lanes k x) j m = round4 k x j m := by
  unfold Scan.round; fin_cases j <;> fin_cases m <;> exact rfl
end

theorem shift_l1 (d : ℕ) (G : Fin 128 → TA) (n : Fin 128) (a : Fin 8) : (TA.shift d G n).l1 a
    = if h : d ≤ n.val then (G ⟨n.val - d, lt_of_le_of_lt (Nat.sub_le _ _) n.isLt⟩).l1 a else 0 := by
  unfold TA.shift; split <;> rfl
theorem shift_l2 (d : ℕ) (G : Fin 128 → TA) (n : Fin 128) (a b : Fin 8) : (TA.shift d G n).l2 a b
    = if h : d ≤ n.val then (G ⟨n.val - d, lt_of_le_of_lt (Nat.sub_le _ _) n.isLt⟩).l2 a b else 0 := by
  unfold TA.shift; split <;> rfl
theorem shift_l3 (d : ℕ) (G : Fin 128 → TA) (n : Fin 128) (a b c : Fin 8) : (TA.shift d G n).l3 a b c
    = if h : d ≤ n.val then (G ⟨n.val - d, lt_of_le_of_lt (Nat.sub_le _ _) n.isLt⟩).l3 a b c else 0 := by
  unfold TA.shift; split <;> rfl
theorem shift_l4 (d : ℕ) (G : Fin 128 → TA) (n : Fin 128) (a b c e : Fin 8) : (TA.shift d G n).l4 a b c e
    = if h : d ≤ n.val then (G ⟨n.val - d, lt_of_le_of_lt (Nat.sub_le _ _) n.isLt⟩).l4 a b c e else 0 := by
  unfold TA.shift; split <;> rfl

/-- A round multiplies. -/
theorem Rep.round {G : Fin 128 → TA} {x : Carried Ideal} (h : Rep G x) (k : Fin k0_t2_loop.trips) :
    Rep (fun n => TA.mul (TA.shift (2 ^ k.val) G n) (G n)) ((Scan.round (F := Ideal)).1 Body.lanes k x) := by
  have s1 := (h.l1.shifted k (Is1.mask k (p := by decide)) (p := rotates_S8x128_d1) (q := broadcasts_S1x128_S8x128)).congr
    (fun a n => (shift_l1 _ _ _ _).symm)
  have s2 := (h.l2.shifted k (Is1.mask k (p := by decide)) (p := rotates_S64x128_d1) (q := broadcasts_S1x128_S64x128)).congr
    (fun a b n => (shift_l2 _ _ _ _ _).symm)
  have s3 := fun m => ((h.l3 m).shifted k (Is1.mask k (p := by decide)) (p := rotates_S64x128_d1) (q := broadcasts_S1x128_S64x128)).congr
    (fun a b n => (shift_l3 _ _ _ _ _ _).symm)
  have s4 := fun j m => ((h.l4 j m).shifted k (Is1.mask k (p := by decide)) (p := rotates_S64x128_d1) (q := broadcasts_S1x128_S64x128)).congr
    (fun a b n => (shift_l4 _ _ _ _ _ _ _).symm)
  refine ⟨?_, ?_, fun m => ?_, fun j m => ?_⟩
  · rw [round_l1]; exact s1.add h.l1
  · rw [round_l2]; exact (s2.add h.l2).add (s1.tp h.l1)
  · rw [round_l3]; exact (((s3 m).add (h.l3 m)).add ((s1.rowOf m).mul h.l2)).add ((s2.blockOf m).tp h.l1)
  · rw [round_l4]
    exact ((((s4 j m).add (h.l4 j m)).add ((s1.rowOf m).mul (Is64.column h.l3 j))).add ((s2.blockOf m).tp (h.l2.swapped.blockOf j))).add
      ((s3 m).mul (h.l1.rowOf j))

end Cert.KernelIdeal.Calc

end
-- ==== Proof.KernelIdeal.Chen.lean ====
module

public import proofs.«01_k».proof.Proof.KernelIdeal.Round

/-! The chunk loop: the element of every lane multiplied from the right by the exponential of the lane's next
    increment. -/

@[expose] public section

set_option maxRecDepth 16384

noncomputable section

namespace Cert.KernelIdeal.Calc

open Idealize.ShloMosaic Cert.KernelIdeal Cert.KernelIdeal.Gen Cert.KernelIdeal.Scan Cert.Algebra

abbrev Slab : Type := Vec Ideal S1x1x8x128 .f32

section
variable (v : Slab) (x : Carried Ideal)
/-- The increments of a slab, and their fractions. -/
@[reducible] def inc : V8 := shapeCast S8x128 v shapeCasts_S1x1x8x128_S8x128
@[reducible] def incHalf : V8 := mulf (inc v) (broadcast S8x128 (FloatOps.ofBits .f32 0x3F000000#32))
@[reducible] def incThird : V8 := mulf (inc v) (broadcast S8x128 (Named.named κ "third" 0x3EAAAAAB#32))
@[reducible] def incQuarter : V8 := mulf (inc v) (broadcast S8x128 (FloatOps.ofBits .f32 0x3E800000#32))
@[reducible] def exp2 : V64 := tp (incHalf v) (inc v)
@[reducible] def exp3 (m : Fin 8) : V64 := tp (blockOf (exp2 v) m) (incThird v)
@[reducible] def exp4 (j m : Fin 8) : V64 := mulf (exp3 v m) (rowOf (incQuarter v) j)

@[reducible] def chen1 : V8 := addf x.1 (inc v)
@[reducible] def chen2 : V64 := addf (addf x.2.1 (exp2 v)) (tp x.1 (inc v))
@[reducible] def chen3 (m : Fin 8) : V64 :=
  addf (addf (addf (third3 x m) (exp3 v m)) (mulf (rowOf x.1 m) (exp2 v))) (tp (blockOf x.2.1 m) (inc v))
@[reducible] def chen4 (j m : Fin 8) : V64 :=
  addf (addf (addf (addf (fourth4 x j m) (exp4 v j m)) (mulf (rowOf x.1 m) (mulf (exp2 v) (rowOf (incThird v) j))))
    (tp (blockOf x.2.1 m) (blockOf (tp (inc v) (incHalf v)) j))) (mulf (third3 x m) (rowOf (inc v) j))

variable (k : Fin k0_t1_loop.trips)
theorem chen_l1 : ((Body.chen (F := Ideal)).1 k v x).1 = chen1 v x := by
  unfold Body.chen; exact rfl
theorem chen_l2 : ((Body.chen (F := Ideal)).1 k v x).2.1 = chen2 v x := by
  unfold Body.chen; exact rfl
theorem chen_l3 (m : Fin 8) : third3 ((Body.chen (F := Ideal)).1 k v x) m = chen3 v x m := by
  unfold Body.chen; fin_cases m <;> exact rfl
theorem chen_l4 (j m : Fin 8) : fourth4 ((Body.chen (F := Ideal)).1 k v x) j m = chen4 v x j m := by
  unfold Body.chen; fin_cases j <;> fin_cases m <;> exact rfl

theorem start_l1 : ((Body.body (F := Ideal)).1.1 v).1 = inc v := by
  unfold Body.body; exact rfl
theorem start_l2 : ((Body.body (F := Ideal)).1.1 v).2.1 = exp2 v := by
  unfold Body.body; exact rfl
theorem start_l3 (m : Fin 8) : third3 ((Body.body (F := Ideal)).1.1 v) m = exp3 v m := by
  unfold Body.body; fin_cases m <;> exact rfl
theorem start_l4 (j m : Fin 8) : fourth4 ((Body.body (F := Ideal)).1.1 v) j m = exp4 v j m := by
  unfold Body.body; fin_cases j <;> fin_cases m <;> exact rfl
end

section
variable {v : Slab} {d : Fin 8 → Fin 128 → ℝ} (hd : Is8 (inc v) d)
include hd
theorem Is8.exp2 : Is64 (Calc.exp2 v) fun a b n => d a n * (1 / 2) * d b n := (hd.scale half).tp hd
theorem Is8.exp3 (m : Fin 8) : Is64 (Calc.exp3 v m) fun a b n => d m n * (1 / 2) * d a n * (d b n * (1 / 3)) :=
  (hd.exp2.blockOf m).tp (hd.scale third)
theorem Is8.exp4 (j m : Fin 8) : Is64 (Calc.exp4 v j m) fun a b n => d m n * (1 / 2) * d a n * (d b n * (1 / 3)) * (d j n * (1 / 4)) :=
  (hd.exp3 m).mul ((hd.scale quarter).rowOf j)

/-- The first increment's exponential. -/
theorem Rep.start : Rep (fun n => TA.expOne fun a => d a n) ((Body.body (F := Ideal)).1.1 v) := by
  refine ⟨?_, ?_, fun m => ?_, fun j m => ?_⟩
  · rw [start_l1]; exact hd
  · rw [start_l2]; exact hd.exp2.congr fun a b n => by simp only [TA.expOne]; ring
  · rw [start_l3]; exact (hd.exp3 m).congr fun a b n => by simp only [TA.expOne]; ring
  · rw [start_l4]; exact (hd.exp4 j m).congr fun a b n => by simp only [TA.expOne]; ring

/-- A step multiplies. -/
theorem Rep.chen {G : Fin 128 → TA} {x : Carried Ideal} (h : Rep G x) (k : Fin k0_t1_loop.trips) :
    Rep (fun n => TA.mul (G n) (TA.expOne fun a => d a n)) ((Body.chen (F := Ideal)).1 k v x) := by
  refine ⟨?_, ?_, fun m => ?_, fun j m => ?_⟩
  · rw [chen_l1]; exact h.l1.add hd
  · rw [chen_l2]; exact ((h.l2.add hd.exp2).add (h.l1.tp hd)).congr fun a b n => by simp only [TA.mul, TA.expOne]; ring
  · rw [chen_l3]
    exact ((((h.l3 m).add (hd.exp3 m)).add ((h.l1.rowOf m).mul hd.exp2)).add ((h.l2.blockOf m).tp hd)).congr
      fun a b n => by simp only [TA.mul, TA.expOne]; ring
  · rw [chen_l4]
    exact (((((h.l4 j m).add (hd.exp4 j m)).add ((h.l1.rowOf m).mul (hd.exp2.mul ((hd.scale third).rowOf j)))).add
      ((h.l2.blockOf m).tp ((hd.tp (hd.scale half)).blockOf j))).add ((h.l3 m).mul (hd.rowOf j))).congr
      fun a b n => by simp only [TA.mul, TA.expOne]; ring
end

end Cert.KernelIdeal.Calc

end
-- ==== Proof.KernelIdeal.Scanned.lean ====
module

public import proofs.«01_k».proof.Proof.KernelIdeal.Chen

/-! The two loops together: from the increments' block to the scanned products. -/

@[expose] public section

set_option maxRecDepth 16384

noncomputable section

namespace Cert.KernelIdeal.Calc

open Idealize.ShloMosaic Cert.KernelIdeal Cert.KernelIdeal.Gen Cert.KernelIdeal.Scan Cert.Algebra

theorem mul_start (y : TA) : TA.mul TA.zero y = y := by
  ext <;> simp [TA.mul, TA.zero]

theorem chunks : k0_t1_loop.trips = 15 := by decide
theorem turns : k0_t2_loop.trips = 7 := by decide
theorem chunk_lt (k : Fin k0_t1_loop.trips) : k.val + 1 < 16 := by have h := chunks; have := k.isLt; omega

section
variable {x0 : Vec Ideal S1x16x8x128 .f32} {d : Fin 16 → Fin 8 → Fin 128 → ℝ}

/-- What the chunk loop carries before a step. -/
theorem Rep.chens (h0 : Is8 (inc (View.ld x0 Body.r0_0)) (d 0))
    (hs : ∀ k : Fin k0_t1_loop.trips, Is8 (inc (View.ld x0 (Body.slab k))) (d ⟨k.val + 1, chunk_lt k⟩)) :
    ∀ k, k ≤ 15 → Rep (fun n => TA.signature (fun s a => d s a n) (k + 1)) (Body.chens x0 ((Body.body (F := Ideal)).1.1 (View.ld x0 Body.r0_0)) k)
  | 0, _ => by
    rw [Body.chens_zero]
    have e : (fun n => TA.signature (fun s a => d s a n) (0 + 1)) = fun n => TA.expOne fun a => d 0 a n :=
      funext fun n => mul_start _
    rw [e]
    exact Rep.start h0
  | k + 1, hk => by
    have hk' : k < k0_t1_loop.trips := by rw [chunks]; omega
    have e : (fun n => TA.signature (fun s a => d s a n) (k + 1 + 1))
        = fun n => TA.mul (TA.signature (fun s a => d s a n) (k + 1)) (TA.expOne fun a => d ⟨k + 1, by omega⟩ a n) :=
      funext fun n => by rw [TA.signature, dif_pos (show k + 1 < 16 by omega)]
    rw [e]
    refine (congrArg (Rep _) (Body.chens_succ x0 _ ⟨k, hk'⟩)).mpr ?_
    exact Rep.chen (hs ⟨k, hk'⟩) (Rep.chens h0 hs k (by omega)) ⟨k, hk'⟩

/-- What the scan carries before a round. -/
theorem Rep.rounds {G : Fin 128 → TA} {x : Carried Ideal} (h : Rep G x) :
    ∀ k, k ≤ 7 → Rep (fun n => TA.scan G k n) (Scan.rounds Body.lanes x k)
  | 0, _ => by rw [rounds_zero]; exact h
  | k + 1, hk => by
    have hk' : k < k0_t2_loop.trips := by rw [turns]; omega
    refine (congrArg (Rep _) (rounds_succ Body.lanes x ⟨k, hk'⟩)).mpr ?_
    exact Rep.round (Rep.rounds h k (by omega)) ⟨k, hk'⟩

theorem Rep.scanned (h0 : Is8 (inc (View.ld x0 Body.r0_0)) (d 0))
    (hs : ∀ k : Fin k0_t1_loop.trips, Is8 (inc (View.ld x0 (Body.slab k))) (d ⟨k.val + 1, chunk_lt k⟩)) :
    Rep (fun n => TA.scan (fun n => TA.signature (fun s a => d s a n) 16) 7 n) (Body.scanned (Body.body (F := Ideal)).1.1 x0) := by
  have e : Body.scanned (Body.body (F := Ideal)).1.1 x0
      = Scan.rounds Body.lanes (Body.chens x0 ((Body.body (F := Ideal)).1.1 (View.ld x0 Body.r0_0)) 15) 7 := by
    unfold Body.scanned
    exact congrArg₂ (fun i j => Scan.rounds Body.lanes (Body.chens x0 ((Body.body (F := Ideal)).1.1 (View.ld x0 Body.r0_0)) i) j) chunks turns
  rw [e]
  exact Rep.rounds (Rep.chens h0 hs 15 (by omega)) 7 (by omega)
end

end Cert.KernelIdeal.Calc

end
-- ==== Proof.KernelIdeal.Blocks.lean ====
module

public import proofs.«01_k».proof.Proof.KernelIdeal.Host
public import proofs.«01_k».proof.Proof.KernelIdeal.Scanned
public import Idealize.ShloMosaic.Lib.Pipeline.ValueKit

/-! What the body reads at a grid point: its windows' blocks, and the loads in them. -/

@[expose] public section

set_option maxRecDepth 16384

noncomputable section

namespace Cert.KernelIdeal.Blocks

open Idealize.ShloMosaic Idealize.ShloMosaic.TcCoe Cert.KernelIdeal Cert.KernelIdeal.Gen Cert.KernelIdeal.Calc

variable (m : (ℓ : Loc nD τ sig) → Buf (Elt Ideal) ℓ) (c : Dev nD)

theorem idx0 : ∀ t : Fin cfg0.N, win0_0.index t = ![t.val, 0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0, 0] := (by decide +kernel : ∀ t : Fin grid0.N, _)

/-- The batch's path of a grid point. -/
abbrev path (t : Fin cfg0.N) : Fin 8 := ⟨t.val, t.isLt⟩

theorem block0 (t : Fin cfg0.N) (s : Fin 16) (a : Fin 8) (n : Fin 128) :
    (iblk m c 0 t : FVec Ideal S1x16x8x128 .f32) (ix4 0 s a n) = (V m c main_v7 : FVec Ideal S8x16x8x128 .f32) (ix4 (path t) s a n) := by
  blk_ext! [iblk, idx0 t]
theorem block1 (t : Fin cfg0.N) : (iblk m c 1 t : FVec Ideal S4680x256 .f32) = V m c main_v13 := by
  blk_ext! [iblk, idx1 t]
theorem block2 (t : Fin cfg0.N) : (iblk m c 2 t : FVec Ideal S1x256 .f32) = V m c main_v14 := by
  blk_ext! [iblk, idx2 t]
theorem block3 (t : Fin cfg0.N) : (iblk m c 3 t : FVec Ideal S256x1 .f32) = V m c main_arg3 := by
  blk_ext! [iblk, idx3 t]
theorem block4 (t : Fin cfg0.N) : (iblk m c 4 t : FVec Ideal S1x1 .f32) = V m c main_v15 := by
  blk_ext! [iblk, idx4 t]

theorem offset : ∀ k : Fin k0_t1_loop.trips, k0_off1 k = ![0, k.val + 1, 0, 0] := by decide +kernel

section
variable (x0 : Vec Ideal S1x16x8x128 .f32)
theorem first_load (a : Fin 8) (n : Fin 128) : inc (View.ld x0 Body.r0_0) (ix2 a n) = x0 (ix4 0 0 a n) :=
  (shapeCast_apply _ _ _ (ix4 0 0 a n) (by
    rw [Shape.rowMajor_val_four, Shape.rowMajor_val_two]
    show ((0 * 1 + 0) * 8 + a.val) * 128 + n.val = a.val * 128 + n.val; omega)).trans
  (View.ld_unit_apply_of _ _ _ _ _ _ (fun y => by
    fin_cases y
    · rfl
    · rfl
    · show a.val = 0 + a.val; omega
    · show n.val = 0 + n.val; omega))
theorem slab_load (k : Fin k0_t1_loop.trips) (a : Fin 8) (n : Fin 128) :
    inc (View.ld x0 (Body.slab k)) (ix2 a n) = x0 (ix4 0 ⟨k.val + 1, chunk_lt k⟩ a n) :=
  (shapeCast_apply _ _ _ (ix4 0 0 a n) (by
    rw [Shape.rowMajor_val_four, Shape.rowMajor_val_two]
    show ((0 * 1 + 0) * 8 + a.val) * 128 + n.val = a.val * 128 + n.val; omega)).trans
  (View.ld_unit_apply_of _ _ _ _ _ _ (fun y => by
    have o0 : k0_off1 k 0 = 0 := congrFun (offset k) 0
    have o1 : k0_off1 k 1 = k.val + 1 := congrFun (offset k) 1
    have o2 : k0_off1 k 2 = 0 := congrFun (offset k) 2
    have o3 : k0_off1 k 3 = 0 := congrFun (offset k) 3
    fin_cases y
    · show 0 = k0_off1 k 0 + 0; omega
    · show k.val + 1 = k0_off1 k 1 + 0; omega
    · show a.val = k0_off1 k 2 + a.val; omega
    · show n.val = k0_off1 k 3 + n.val; omega))
end

section
variable (w : Vec Ideal S4680x256 .f32) (q : Fin 256)
theorem first_rows (k : Fin 72) : View.ld w Body.r0_1a (ix2 k q) = w (ix2 ⟨k.val, by omega⟩ q) :=
  View.ld_unit_apply_of _ _ _ _ _ _ (fun y => by
    fin_cases y
    · show k.val = 0 + k.val; omega
    · show q.val = 0 + q.val; omega)
theorem third_rows (k : Fin 512) : View.ld w Body.r0_1b (ix2 k q) = w (ix2 ⟨72 + k.val, by omega⟩ q) :=
  View.ld_unit_apply_of _ _ _ _ _ _ (fun y => by
    fin_cases y
    · rfl
    · show q.val = 0 + q.val; omega)
theorem fourth_rows (k : Fin 4096) : View.ld w Body.r0_1c (ix2 k q) = w (ix2 ⟨584 + k.val, by omega⟩ q) :=
  View.ld_unit_apply_of _ _ _ _ _ _ (fun y => by
    fin_cases y
    · rfl
    · show q.val = 0 + q.val; omega)
end

theorem whole2 (w : Vec Ideal S1x256 .f32) : View.ld w Body.r0_2 = w := View.ld_unit_lit _ _ (by decide)
theorem whole3 (w : Vec Ideal S256x1 .f32) : View.ld w Body.r0_3 = w := View.ld_unit_lit _ _ (by decide)
theorem whole4 (w : Vec Ideal S1x1 .f32) : View.ld w Body.r0_4 = w := View.ld_unit_lit _ _ (by decide)
theorem whole5 (w : Vec Ideal S1x1x1 .f32) : View.canon [(⟨Body.r0_5, w⟩ : View.Piece (Elt Ideal) S1x1x1 .f32)] = w :=
  View.canon_unit_zero (by funext a; fin_cases a <;> rfl) _ w

end Cert.KernelIdeal.Blocks

end
-- ==== Proof.KernelIdeal.Log.lean ====
module

public import proofs.«01_k».proof.Proof.KernelIdeal.Chen

/-! The kernel's logarithm, level by level. -/

@[expose] public section

set_option maxRecDepth 16384

noncomputable section

namespace Cert.KernelIdeal.Calc

open Idealize.ShloMosaic Cert.KernelIdeal Cert.KernelIdeal.Gen Cert.KernelIdeal.Scan Cert.Algebra

theorem minusHalf : FloatOps.ofBits (F := Ideal) .f32 0xBF000000#32 = ((-(1 / 2) : ℝ) : EReal) := by
  show Ideal.ofBits _ _ = _
  simp [Ideal.ofBits, Ideal.ieee, -EReal.coe_mul]; norm_num
theorem minusQuarter : FloatOps.ofBits (F := Ideal) .f32 0xBE800000#32 = ((-(1 / 4) : ℝ) : EReal) := by
  show Ideal.ofBits _ _ = _
  simp [Ideal.ofBits, Ideal.ieee, -EReal.coe_mul]; norm_num

section
variable (x : Carried Ideal)
@[reducible] def s1h : V8 := mulf x.1 (broadcast S8x128 (FloatOps.ofBits .f32 0xBF000000#32))
@[reducible] def s1t : V8 := mulf x.1 (broadcast S8x128 (Named.named κ "third" 0x3EAAAAAB#32))
@[reducible] def s1q : V8 := mulf x.1 (broadcast S8x128 (FloatOps.ofBits .f32 0xBE800000#32))
@[reducible] def p2 : V64 := tp x.1 x.1
@[reducible] def s2rh : V64 := mulf (swapped x.2.1) (broadcast S64x128 (FloatOps.ofBits .f32 0xBF000000#32))
@[reducible] def p2t : V64 := mulf (p2 x) (broadcast S64x128 (Named.named κ "third" 0x3EAAAAAB#32))
@[reducible] def p3 (m : Fin 8) : V64 := addf (mulf (rowOf x.1 m) x.2.1) (tp (blockOf x.2.1 m) x.1)
@[reducible] def q3 (m : Fin 8) : V64 := mulf (rowOf x.1 m) (p2 x)
@[reducible] def p3r (j : Fin 8) : V64 := addf (tp x.1 (blockOf (swapped x.2.1) j)) (mulf x.2.1 (rowOf x.1 j))
@[reducible] def q3r (j : Fin 8) : V64 := tp x.1 (blockOf (p2 x) j)

@[reducible] def log2 : V64 := subf x.2.1 (mulf (broadcast S64x128 (FloatOps.ofBits .f32 0x3F000000#32)) (p2 x))
@[reducible] def log3 (m : Fin 8) : V64 :=
  addf (subf (third3 x m) (mulf (broadcast S64x128 (FloatOps.ofBits .f32 0x3F000000#32)) (p3 x m)))
    (mulf (broadcast S64x128 (Named.named κ "third" 0x3EAAAAAB#32)) (q3 x m))
@[reducible] def log4 (j m : Fin 8) : V64 :=
  addf (addf (addf (addf (addf (addf (fourth4 x j m) (mulf (rowOf (s1h x) m) (column (third3 x) j)))
    (tp (blockOf x.2.1 m) (blockOf (s2rh x) j))) (mulf (third3 x m) (rowOf (s1h x) j)))
    (mulf (rowOf (s1t x) m) (p3r x j))) (tp (blockOf x.2.1 m) (blockOf (p2t x) j))) (mulf (rowOf (s1q x) m) (q3r x j))
end

section
variable {G : Fin 128 → TA} {x : Carried Ideal} (h : Rep G x)
include h
theorem Rep.p2 : Is64 (Calc.p2 x) fun a b n => (G n).l1 a * (G n).l1 b := h.l1.tp h.l1
theorem Rep.log2 : Is64 (Calc.log2 x) fun a b n => (TA.log (G n)).l2 a b :=
  (h.l2.sub (h.p2.scaleLeft half)).congr fun a b n => by simp only [TA.log]; ring
theorem Rep.log3 (m : Fin 8) : Is64 (Calc.log3 x m) fun a b n => (TA.log (G n)).l3 m a b :=
  (((h.l3 m).sub ((((h.l1.rowOf m).mul h.l2).add ((h.l2.blockOf m).tp h.l1)).scaleLeft half)).add (((h.l1.rowOf m).mul h.p2).scaleLeft third)).congr
    fun a b n => by simp only [TA.log]; ring
theorem Rep.log4 (j m : Fin 8) : Is64 (Calc.log4 x j m) fun a b n => (TA.log (G n)).l4 m a b j :=
  (((((((h.l4 j m).add (((h.l1.scale minusHalf).rowOf m).mul (Is64.column h.l3 j))).add
    ((h.l2.blockOf m).tp ((h.l2.swapped.scale minusHalf).blockOf j))).add ((h.l3 m).mul ((h.l1.scale minusHalf).rowOf j))).add
    (((h.l1.scale third).rowOf m).mul ((h.l1.tp (h.l2.swapped.blockOf j)).add (h.l2.mul (h.l1.rowOf j))))).add
    ((h.l2.blockOf m).tp ((h.p2.scale third).blockOf j))).add
    (((h.l1.scale minusQuarter).rowOf m).mul (h.l1.tp (h.p2.blockOf j)))).congr
    fun a b n => by simp only [TA.log]; ring
end

end Cert.KernelIdeal.Calc

end
-- ==== Proof.Dense.lean ====
module

public import proofs.«01_k».proof.Proof.Algebra
public import Mathlib.Data.EReal.Operations
public import Mathlib.Algebra.BigOperators.Fin
public import Mathlib.Logic.Equiv.Fin.Basic

/-! The end both programs come to: the logarithms' mean over the chunks and the first dense layer, with sums over
    rows numbered by letters. -/

@[expose] public section

noncomputable section

namespace Cert.Algebra

/-- The mean over the chunks. -/
def TA.pool (L : Fin 128 → TA) : TA where
  l1 a := (∑ n, (L n).l1 a) / 128
  l2 a b := (∑ n, (L n).l2 a b) / 128
  l3 a b c := (∑ n, (L n).l3 a b c) / 128
  l4 a b c d := (∑ n, (L n).l4 a b c d) / 128

/-- The hidden layer, its weights' rows in the order of the letters. -/
def dense (p : TA) (W : Fin 4680 → EReal) (b : EReal) : EReal :=
  max ((∑ a, (p.l1 a : EReal) * W ⟨a.val, by omega⟩) + (∑ a, ∑ b, (p.l2 a b : EReal) * W ⟨8 + (8 * a.val + b.val), by omega⟩)
    + (∑ m, ∑ a, ∑ b, (p.l3 m a b : EReal) * W ⟨72 + (64 * m.val + (8 * a.val + b.val)), by omega⟩)
    + (∑ m, ∑ a, ∑ b, ∑ j, (p.l4 m a b j : EReal) * W ⟨584 + (512 * m.val + (64 * a.val + (8 * b.val + j.val))), by omega⟩) + b) 0

/-- A sum over rows numbered by two parts. -/
theorem sum_parts (m n : ℕ) {M : Type} [AddCommMonoid M] (f : ℕ → M) : ∑ k : Fin (m * n), f k.val = ∑ a : Fin m, ∑ b : Fin n, f (n * a.val + b.val) := by
  rw [← Fintype.sum_prod_type' (f := fun (a : Fin m) (b : Fin n) => f (n * a.val + b.val)), ← finProdFinEquiv.sum_comp]
  refine Finset.sum_congr rfl fun x _ => ?_
  rw [finProdFinEquiv_apply_val, add_comm]

theorem sum64 {M : Type} [AddCommMonoid M] (f : ℕ → M) : ∑ k : Fin 64, f k.val = ∑ a : Fin 8, ∑ b : Fin 8, f (8 * a.val + b.val) := sum_parts 8 8 f
theorem sum512 {M : Type} [AddCommMonoid M] (f : ℕ → M) :
    ∑ k : Fin 512, f k.val = ∑ m : Fin 8, ∑ a : Fin 8, ∑ b : Fin 8, f (64 * m.val + (8 * a.val + b.val)) :=
  (sum_parts 8 64 f).trans (Finset.sum_congr rfl fun m _ => sum64 fun k => f (64 * m.val + k))
theorem sum4096 {M : Type} [AddCommMonoid M] (f : ℕ → M) :
    ∑ k : Fin 4096, f k.val = ∑ m : Fin 8, ∑ a : Fin 8, ∑ b : Fin 8, ∑ j : Fin 8, f (512 * m.val + (64 * a.val + (8 * b.val + j.val))) :=
  (sum_parts 8 512 f).trans (Finset.sum_congr rfl fun m _ => sum512 fun k => f (512 * m.val + k))
theorem sum72 {M : Type} [AddCommMonoid M] (f : ℕ → M) :
    ∑ k : Fin 72, f k.val = (∑ a : Fin 8, f a.val) + ∑ a : Fin 8, ∑ b : Fin 8, f (8 + (8 * a.val + b.val)) :=
  (Fin.sum_univ_add (a := 8) (b := 64) fun k => f k.val).trans (congrArg₂ (· + ·) rfl (sum64 fun k => f (8 + k)))

/-- The same, of what is given at the numbers only. -/
theorem sum_val {N : ℕ} {M : Type} [AddCommMonoid M] (f : Fin N → M) :
    ∑ k, f k = ∑ k : Fin N, (fun i => if h : i < N then f ⟨i, h⟩ else 0) k.val :=
  Finset.sum_congr rfl fun k _ => by simp

theorem sum72' {M : Type} [AddCommMonoid M] (f : Fin 72 → M) :
    ∑ k, f k = (∑ a : Fin 8, f ⟨a.val, by omega⟩) + ∑ a : Fin 8, ∑ b : Fin 8, f ⟨8 + (8 * a.val + b.val), by omega⟩ :=
  (sum_val f).trans ((sum72 fun i => if h : i < 72 then f ⟨i, h⟩ else 0).trans (congrArg₂ (· + ·) (Finset.sum_congr rfl fun a _ => dif_pos (show a.val < 72 by omega))
    (Finset.sum_congr rfl fun a _ => Finset.sum_congr rfl fun b _ => dif_pos (show 8 + (8 * a.val + b.val) < 72 by omega))))
theorem sum512' {M : Type} [AddCommMonoid M] (f : Fin 512 → M) :
    ∑ k, f k = ∑ m : Fin 8, ∑ a : Fin 8, ∑ b : Fin 8, f ⟨64 * m.val + (8 * a.val + b.val), by omega⟩ :=
  (sum_val f).trans ((sum512 fun i => if h : i < 512 then f ⟨i, h⟩ else 0).trans
    (Finset.sum_congr rfl fun m _ => Finset.sum_congr rfl fun a _ => Finset.sum_congr rfl fun b _ => dif_pos (show 64 * m.val + (8 * a.val + b.val) < 512 by omega)))
theorem sum4096' {M : Type} [AddCommMonoid M] (f : Fin 4096 → M) :
    ∑ k, f k = ∑ m : Fin 8, ∑ a : Fin 8, ∑ b : Fin 8, ∑ j : Fin 8, f ⟨512 * m.val + (64 * a.val + (8 * b.val + j.val)), by omega⟩ :=
  (sum_val f).trans ((sum4096 fun i => if h : i < 4096 then f ⟨i, h⟩ else 0).trans
    (Finset.sum_congr rfl fun m _ => Finset.sum_congr rfl fun a _ => Finset.sum_congr rfl fun b _ => Finset.sum_congr rfl fun j _ =>
      dif_pos (show 512 * m.val + (64 * a.val + (8 * b.val + j.val)) < 4096 by omega)))

/-- All the rows, level by level. -/
theorem sum4680 {M : Type} [AddCommMonoid M] (f : Fin 4680 → M) :
    ∑ k, f k = (∑ a : Fin 8, f ⟨a.val, by omega⟩) + (∑ a : Fin 8, ∑ b : Fin 8, f ⟨8 + (8 * a.val + b.val), by omega⟩)
      + (∑ m : Fin 8, ∑ a : Fin 8, ∑ b : Fin 8, f ⟨72 + (64 * m.val + (8 * a.val + b.val)), by omega⟩)
      + (∑ m : Fin 8, ∑ a : Fin 8, ∑ b : Fin 8, ∑ j : Fin 8, f ⟨584 + (512 * m.val + (64 * a.val + (8 * b.val + j.val))), by omega⟩) := by
  refine (Fin.sum_univ_add (a := 584) (b := 4096) f).trans (congrArg₂ (· + ·) ?_ (sum4096' fun k => f (Fin.natAdd 584 k)))
  refine (Fin.sum_univ_add (a := 72) (b := 512) fun k => f (Fin.castAdd 4096 k)).trans (congrArg₂ (· + ·) (sum72' fun k => f (Fin.castAdd 4096 (Fin.castAdd 512 k)))
    (sum512' fun k => f (Fin.castAdd 4096 (Fin.natAdd 72 k))))

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The last of four letters first. -/
theorem sum_last_first {M : Type} [AddCommMonoid M] (f : Fin 8 → Fin 8 → Fin 8 → Fin 8 → M) :
    ∑ j, ∑ m, ∑ a, ∑ b, f j m a b = ∑ m, ∑ a, ∑ b, ∑ j, f j m a b := by
  rw [Finset.sum_comm]
  refine Finset.sum_congr rfl fun m _ => ?_
  rw [Finset.sum_comm]
  refine Finset.sum_congr rfl fun a _ => ?_
  rw [Finset.sum_comm]

end Cert.Algebra

end
-- ==== Proof.KernelIdeal.Head.lean ====
module

public import proofs.«01_k».proof.Proof.KernelIdeal.Log
public import proofs.«01_k».proof.Proof.Dense

/-! The end of the kernel's body: the logarithm's means over the lanes, and the two dense layers. -/

@[expose] public section

set_option maxRecDepth 16384

noncomputable section

namespace Cert.KernelIdeal.Calc

open Idealize.ShloMosaic Cert.KernelIdeal Cert.KernelIdeal.Gen Cert.KernelIdeal.Scan Cert.Algebra

@[reducible] def mean8 (v : V8) : FVec Ideal S8x1 .f32 :=
  divf (shapeCast S8x1 (multiReduction .add [1] S8 v 0x00000000#32 reduces_S8x128_S8 (.inl rfl) rfl) shapeCasts_S8_S8x1)
    (broadcast S8x1 (FloatOps.ofBits .f32 0x43000000#32))
@[reducible] def mean64 (v : V64) : FVec Ideal S64x1 .f32 :=
  divf (shapeCast S64x1 (multiReduction .add [1] S64 v 0x00000000#32 reduces_S64x128_S64 (.inl rfl) rfl) shapeCasts_S64_S64x1)
    (broadcast S64x1 (FloatOps.ofBits .f32 0x43000000#32))

section
variable (x : Carried Ideal)
@[reducible] def m12 : FVec Ideal S72x1 .f32 :=
  concatenate S72x1 0 [⟨S8x1, mean8 x.1⟩, ⟨S64x1, mean64 (log2 x)⟩] concatenates_S8x1_S64x1_S72x1_d0

theorem eights (u : Fin 8 → FVec Ideal S64x1 .f32) :
    Shape.Concatenates ((List.ofFn fun a => (⟨S64x1, u a⟩ : (s : Shape) × (s.Idx → EReal))).map (·.1)) S512x1 0 :=
  concatenates_S64x1_S64x1_S64x1_S64x1_S64x1_S64x1_S64x1_S64x1_S512x1_d0
theorem sixtyfours (u : Fin 64 → FVec Ideal S64x1 .f32) :
    Shape.Concatenates ((List.ofFn fun a => (⟨S64x1, u a⟩ : (s : Shape) × (s.Idx → EReal))).map (·.1)) S4096x1 0 := by
  have e : (List.ofFn fun a => (⟨S64x1, u a⟩ : (s : Shape) × (s.Idx → EReal))).map (·.1) = List.replicate 64 S64x1 := by
    rw [List.map_ofFn]; exact List.ofFn_const 64 S64x1
  rw [e]; decide

@[reducible] def m3 : FVec Ideal S512x1 .f32 := concatenate S512x1 0 (List.ofFn fun m => ⟨S64x1, mean64 (log3 x m)⟩) (eights _)
@[reducible] def m4 : FVec Ideal S4096x1 .f32 :=
  concatenate S4096x1 0 (List.ofFn fun q : Fin 64 => ⟨S64x1, mean64 (log4 x ⟨q.val / 8, by omega⟩ ⟨q.val % 8, by omega⟩)⟩) (sixtyfours _)

variable (w1 : FVec Ideal S72x256 .f32) (w2 : FVec Ideal S512x256 .f32) (w3 : FVec Ideal S4096x256 .f32) (w4 : FVec Ideal S1x256 .f32)
  (w5 : FVec Ideal S256x1 .f32) (w6 : FVec Ideal S1x1 .f32)
@[reducible] def hidden (u1 : FVec Ideal S72x1 .f32) (u2 : FVec Ideal S512x1 .f32) (u3 : FVec Ideal S4096x1 .f32) : FVec Ideal S1x256 .f32 :=
  maximumf (addf (addf (addf
    (matmul dot_S72x1_S72x256_S1x256_0_0_1_1_n_n none u1 (shapeCast S72x256 w1 shapeCasts_S72x256_S72x256) (constant S1x256 .f32 0#32))
    (matmul dot_S512x1_S512x256_S1x256_0_0_1_1_n_n none u2 (shapeCast S512x256 w2 shapeCasts_S512x256_S512x256) (constant S1x256 .f32 0#32)))
    (matmul dot_S4096x1_S4096x256_S1x256_0_0_1_1_n_n none u3 (shapeCast S4096x256 w3 shapeCasts_S4096x256_S4096x256) (constant S1x256 .f32 0#32)))
    (shapeCast S1x256 w4 shapeCasts_S1x256_S1x256)) (broadcast S1x256 (FloatOps.ofBits .f32 0#32))
@[reducible] def result (h : FVec Ideal S1x256 .f32) : FVec Ideal S1x1x1 .f32 :=
  shapeCast S1x1x1 (addf (matmul dot_S1x256_S256x1_S1x1_1_0_0_1_n_n none h w5 (constant S1x1 .f32 0#32))
    (shapeCast S1x1 w6 shapeCasts_S1x1_S1x1)) shapeCasts_S1x1_S1x1x1

theorem body_result : (Body.body (F := Ideal)).1.2 x w1 w2 w3 w4 w5 w6 = result w5 w6 (hidden w1 w2 w3 w4 (m12 x) (m3 x) (m4 x)) := by
  unfold Body.body; exact rfl
end

theorem size : Ideal.ofBits .f32 0x43000000#32 = ((128 : ℝ) : EReal) := by
  simp [Ideal.ofBits, Ideal.ieee, -EReal.coe_mul]; norm_num

theorem Is8.mean {v : V8} {f : Fin 8 → Fin 128 → ℝ} (h : Is8 v f) (a : Fin 8) :
    mean8 v (ix2 a 0) = (((∑ n, f a n) / 128 : ℝ) : EReal) := by
  pointwise
  refine (congrArg (fun z => Ideal.div z _) (Finset.sum_congr rfl fun n _ => h a n)).trans ?_
  rw [size, Ideal.div_coe (by norm_num)]
  rw [← coe_sum, ← EReal.coe_mul, one_div, div_eq_mul_inv]
theorem Is64.mean {v : V64} {f : Fin 8 → Fin 8 → Fin 128 → ℝ} (h : Is64 v f) (a b : Fin 8) :
    mean64 v (ix2 (Calc.row a b) 0) = (((∑ n, f a b n) / 128 : ℝ) : EReal) := by
  pointwise
  refine (congrArg (fun z => Ideal.div z _) (Finset.sum_congr rfl fun n _ => h a b n)).trans ?_
  rw [size, Ideal.div_coe (by norm_num)]
  rw [← coe_sum, ← EReal.coe_mul, one_div, div_eq_mul_inv]

section
variable (w1 : FVec Ideal S72x256 .f32) (w2 : FVec Ideal S512x256 .f32) (w3 : FVec Ideal S4096x256 .f32) (w4 : FVec Ideal S1x256 .f32)
  (w5 : FVec Ideal S256x1 .f32) (w6 : FVec Ideal S1x1 .f32)
theorem hidden_at (u1 : FVec Ideal S72x1 .f32) (u2 : FVec Ideal S512x1 .f32) (u3 : FVec Ideal S4096x1 .f32) (q : Fin 256) :
    hidden w1 w2 w3 w4 u1 u2 u3 (ix2 0 q) = max ((∑ k, u1 (ix2 k 0) * w1 (ix2 k q)) + (∑ k, u2 (ix2 k 0) * w2 (ix2 k q))
      + (∑ k, u3 (ix2 k 0) * w3 (ix2 k q)) + w4 (ix2 0 q)) 0 := by
  pointwise

theorem result_at (h : FVec Ideal S1x256 .f32) :
    result w5 w6 h (ix3 0 0 0) = (∑ q, h (ix2 0 q) * w5 (ix2 q 0)) + w6 (ix2 0 0) := by
  pointwise
end

section
variable {G : Fin 128 → TA} {x : Carried Ideal} (h : Rep G x)
include h
theorem Rep.m12_first (a : Fin 8) : m12 x (ix2 ⟨a.val, by omega⟩ 0) = ((TA.pool fun n => TA.log (G n)).l1 a : EReal) := by
  refine Eq.trans ?_ (h.l1.mean a)
  exact concatenate_pair_apply_left (t := S72x1) (s₁ := S8x1) (s₂ := S64x1) 0 _ _ _ _ rfl (ix2 a 0) (by intro y; fin_cases y <;> rfl)
theorem Rep.m12_second (a b : Fin 8) : m12 x (ix2 ⟨8 + (8 * a.val + b.val), by omega⟩ 0) = ((TA.pool fun n => TA.log (G n)).l2 a b : EReal) := by
  refine Eq.trans ?_ (h.log2.mean a b)
  exact concatenate_pair_apply_right (t := S72x1) (s₁ := S8x1) (s₂ := S64x1) 0 _ _ _ _ rfl rfl (ix2 (Calc.row a b) 0)
    (by intro y hy; fin_cases y
        · exact absurd rfl hy
        · rfl) (by show 8 * a.val + b.val + 8 = 8 + (8 * a.val + b.val); omega)
theorem Rep.m3_at (m a b : Fin 8) : m3 x (ix2 ⟨64 * m.val + (8 * a.val + b.val), by omega⟩ 0) = ((TA.pool fun n => TA.log (G n)).l3 m a b : EReal) := by
  refine Eq.trans ?_ ((h.log3 m).mean a b)
  exact concatenate_ofFn_apply (s₁ := S64x1) (t := S512x1) 0 (fun m => mean64 (Calc.log3 x m)) (eights _) rfl 64 rfl _ m
    (by show (64 * m.val + (8 * a.val + b.val)) / 64 = m.val; omega) (ix2 (Calc.row a b) 0)
    (by show 8 * a.val + b.val = (64 * m.val + (8 * a.val + b.val)) % 64; omega)
    (by intro y hy; fin_cases y
        · exact absurd rfl hy
        · rfl)
theorem Rep.m4_at (j m a b : Fin 8) :
    m4 x (ix2 ⟨512 * j.val + (64 * m.val + (8 * a.val + b.val)), by omega⟩ 0) = ((TA.pool fun n => TA.log (G n)).l4 m a b j : EReal) := by
  refine Eq.trans ?_ ((h.log4 j m).mean a b)
  refine Eq.trans (concatenate_ofFn_apply (s₁ := S64x1) (t := S4096x1) 0
    (fun q : Fin 64 => mean64 (Calc.log4 x ⟨q.val / 8, by omega⟩ ⟨q.val % 8, by omega⟩)) (sixtyfours _) rfl 64 rfl _ ⟨8 * j.val + m.val, by omega⟩
    (by show (512 * j.val + (64 * m.val + (8 * a.val + b.val))) / 64 = 8 * j.val + m.val; omega) (ix2 (Calc.row a b) 0)
    (by show 8 * a.val + b.val = (512 * j.val + (64 * m.val + (8 * a.val + b.val))) % 64; omega)
    (by intro y hy; fin_cases y
        · exact absurd rfl hy
        · rfl)) ?_
  have e1 : (⟨(8 * j.val + m.val) / 8, by omega⟩ : Fin 8) = j := Fin.ext (by show (8 * j.val + m.val) / 8 = j.val; omega)
  have e2 : (⟨(8 * j.val + m.val) % 8, by omega⟩ : Fin 8) = m := Fin.ext (by show (8 * j.val + m.val) % 8 = m.val; omega)
  show mean64 (Calc.log4 x ⟨(8 * j.val + m.val) / 8, _⟩ ⟨(8 * j.val + m.val) % 8, _⟩) _ = _
  rw [e1, e2]

/-- The hidden layer. -/
theorem Rep.hidden_eq {w1 : FVec Ideal S72x256 .f32} {w2 : FVec Ideal S512x256 .f32} {w3 : FVec Ideal S4096x256 .f32} {w4 : FVec Ideal S1x256 .f32}
    {W : Fin 4680 → EReal} {b : EReal} (q : Fin 256) (h1 : ∀ k : Fin 72, w1 (ix2 k q) = W ⟨k.val, by omega⟩)
    (h2 : ∀ k : Fin 512, w2 (ix2 k q) = W ⟨72 + k.val, by omega⟩)
    (h3 : ∀ j m a b : Fin 8, w3 (ix2 ⟨512 * j.val + (64 * m.val + (8 * a.val + b.val)), by omega⟩ q)
      = W ⟨584 + (512 * m.val + (64 * a.val + (8 * b.val + j.val))), by omega⟩) (h4 : w4 (ix2 0 q) = b) :
    hidden w1 w2 w3 w4 (m12 x) (m3 x) (m4 x) (ix2 0 q) = dense (TA.pool fun n => TA.log (G n)) W b := by
  rw [hidden_at, h4, dense, sum72', sum512', sum4096', sum_last_first]
  refine congrArg (fun z => max (z + b) 0) (congrArg₂ (· + ·) (congrArg₂ (· + ·) (congrArg₂ (· + ·) ?_ ?_) ?_) ?_)
  · refine Finset.sum_congr rfl fun a _ => ?_
    rw [h1, h.m12_first]
  · refine Finset.sum_congr rfl fun a _ => Finset.sum_congr rfl fun b _ => ?_
    rw [h1, h.m12_second]
  · refine Finset.sum_congr rfl fun m _ => Finset.sum_congr rfl fun a _ => Finset.sum_congr rfl fun b _ => ?_
    rw [h2, h.m3_at]
  · refine Finset.sum_congr rfl fun m _ => Finset.sum_congr rfl fun a _ => Finset.sum_congr rfl fun b _ => Finset.sum_congr rfl fun j _ => ?_
    rw [h3, h.m4_at]
end

end Cert.KernelIdeal.Calc

end
-- ==== Proof.ReferenceIdeal.Out.lean ====
module

public import proofs.«01_k».proof.Proof.ReferenceIdeal.Step
public import proofs.«01_k».proof.Proof.Dense

/-! What the reference makes of the scanned logarithms: their means, flattened, through the two dense layers. -/

@[expose] public section

set_option maxRecDepth 16384

noncomputable section

namespace Cert.ReferenceIdeal.Out

open Idealize.ShloMosaic Cert.ReferenceIdeal Cert.ReferenceIdeal.Gen Cert.ReferenceIdeal.Value Cert.ReferenceIdeal.Levels
open Cert.ReferenceIdeal.Step Cert.Algebra

variable (v1 : A1) (v2 : A2) (v3 : A3) (v4 : A4)

/-- The levels, each in one row. -/
@[reducible] def pieces : List ((s : Shape) × (s.Idx → EReal)) :=
  [⟨S8x128x8, v1⟩, ⟨S8x128x64, shapeCast _ v2 shapeCasts_S8x128x8x8_S8x128x64⟩,
    ⟨S8x128x512, shapeCast _ v3 shapeCasts_S8x128x8x8x8_S8x128x512⟩, ⟨S8x128x4096, shapeCast _ v4 shapeCasts_S8x128x8x8x8x8_S8x128x4096⟩]

/-- The flattened levels. -/
@[reducible] def flat : FVec Ideal S8x128x4680 .f32 :=
  concatenate S8x128x4680 2 (pieces v1 v2 v3 v4) concatenates_S8x128x8_S8x128x64_S8x128x512_S8x128x4096_S8x128x4680_d2

/-- Their means. -/
@[reducible] def mean (u : FVec Ideal S8x128x4680 .f32) : FVec Ideal S8x4680 .f32 :=
  Host.divf (Host.reduceAdd u (constant S_ .f32 0x00000000#32) reducesTo_S8x128x4680_S8x4680_d1 h_S_)
    (broadcastInDim S8x4680 ![] bcast_S_S8x4680 (constant S_ .f32 0x43000000#32))

section
variable (u : FVec Ideal S8x4680 .f32) (w1 : FVec Ideal S4680x256 .f32) (w2 : FVec Ideal S256 .f32) (w3 : FVec Ideal S256x1 .f32) (w4 : FVec Ideal S1 .f32)

/-- The hidden layer of the means. -/
@[reducible] def hidden : FVec Ideal S8x256 .f32 :=
  maximumf (addf (Host.dotGeneral dot_S8x4680_S4680x256_S8x256_1_0_0_1_n_n none u w1)
    (broadcastInDim S8x256 ![0, 1] bcast_S1x256_S8x256_0_1 (broadcastInDim S1x256 ![1] bcast_S256_S1x256_1 w2)))
    (broadcastInDim S8x256 ![] bcast_S_S8x256 (constant S_ .f32 0x00000000#32))

/-- The result of the hidden layer. -/
@[reducible] def result (h : FVec Ideal S8x256 .f32) : FVec Ideal S8x1 .f32 :=
  addf (Host.dotGeneral dot_S8x256_S256x1_S8x1_1_0_0_1_n_n none h w3)
    (broadcastInDim S8x1 ![0, 1] bcast_S1x1_S8x1_0_1 (broadcastInDim S1x1 ![1] bcast_S1_S1x1_1 w4))

theorem hidden_at (b : Fin 8) (q : Fin 256) :
    hidden u w1 w2 (ix2 b q) = max ((∑ k, u (ix2 b k) * w1 (ix2 k q)) + w2 (ix1 q)) 0 := by
  pointwise

theorem result_at (h : FVec Ideal S8x256 .f32) (b : Fin 8) :
    result w3 w4 h (ix2 b 0) = (∑ q, h (ix2 b q) * w3 (ix2 q 0)) + w4 (ix1 0) := by
  pointwise
end

theorem size : Ideal.ofBits .f32 0x43000000#32 = ((128 : ℝ) : EReal) := by
  simp [Ideal.ofBits, Ideal.ieee, -EReal.coe_mul]; norm_num

theorem mean_at {u : FVec Ideal S8x128x4680 .f32} {f : Fin 128 → ℝ} {b : Fin 8} {k : Fin 4680} (h : ∀ n, u (ix3 b n k) = (f n : EReal)) :
    mean u (ix2 b k) = (((∑ n, f n) / 128 : ℝ) : EReal) := by
  pointwise
  refine (congrArg (fun z => Ideal.div z _) (Finset.sum_congr rfl fun n _ => h n)).trans ?_
  rw [size, ← coe_sum]
  exact div_real _ (by norm_num)

theorem flat_first (b : Fin 8) (n : Fin 128) (i : Fin 8) : flat v1 v2 v3 v4 (ix3 b n ⟨i.val, by omega⟩) = v1 (ix3 b n i) :=
  concatenate_apply_piece (t := S8x128x4680) 2 (pieces v1 v2 v3 v4) concatenates_S8x128x8_S8x128x64_S8x128x512_S8x128x4096_S8x128x4680_d2 _ 0 (by simp) S8x128x8 _ rfl rfl 0 rfl (ix3 b n i)
    (fun y hy => by fin_cases y <;> first | rfl | exact absurd rfl hy) (by show 0 + i.val = i.val; omega)
theorem flat_second (b : Fin 8) (n : Fin 128) (i j : Fin 8) :
    flat v1 v2 v3 v4 (ix3 b n ⟨8 + (8 * i.val + j.val), by omega⟩) = v2 (ix4 b n i j) :=
  (concatenate_apply_piece (t := S8x128x4680) 2 (pieces v1 v2 v3 v4) concatenates_S8x128x8_S8x128x64_S8x128x512_S8x128x4096_S8x128x4680_d2 _ 1 (by simp) S8x128x64 _ rfl rfl 8 rfl
    (ix3 b n ⟨8 * i.val + j.val, by omega⟩)
    (fun y hy => by fin_cases y <;> first | rfl | exact absurd rfl hy) rfl).trans
  (shapeCast_apply _ _ _ _ (by
    rw [Shape.rowMajor_val_four, Shape.rowMajor_val_three]
    show ((b.val * 128 + n.val) * 8 + i.val) * 8 + j.val = (b.val * 128 + n.val) * 64 + (8 * i.val + j.val); omega))
theorem flat_third (b : Fin 8) (n : Fin 128) (i j k : Fin 8) :
    flat v1 v2 v3 v4 (ix3 b n ⟨72 + (64 * i.val + (8 * j.val + k.val)), by omega⟩) = v3 (ix5 b n i j k) :=
  (concatenate_apply_piece (t := S8x128x4680) 2 (pieces v1 v2 v3 v4) concatenates_S8x128x8_S8x128x64_S8x128x512_S8x128x4096_S8x128x4680_d2 _ 2 (by simp) S8x128x512 _ rfl rfl 72 rfl
    (ix3 b n ⟨64 * i.val + (8 * j.val + k.val), by omega⟩)
    (fun y hy => by fin_cases y <;> first | rfl | exact absurd rfl hy) rfl).trans
  (shapeCast_apply _ _ _ _ (by
    rw [Shape.rowMajor_val_five, Shape.rowMajor_val_three]
    show (((b.val * 128 + n.val) * 8 + i.val) * 8 + j.val) * 8 + k.val = (b.val * 128 + n.val) * 512 + (64 * i.val + (8 * j.val + k.val)); omega))
theorem flat_fourth (b : Fin 8) (n : Fin 128) (i j k l : Fin 8) :
    flat v1 v2 v3 v4 (ix3 b n ⟨584 + (512 * i.val + (64 * j.val + (8 * k.val + l.val))), by omega⟩) = v4 (ix6 b n i j k l) :=
  (concatenate_apply_piece (t := S8x128x4680) 2 (pieces v1 v2 v3 v4) concatenates_S8x128x8_S8x128x64_S8x128x512_S8x128x4096_S8x128x4680_d2 _ 3 (by simp) S8x128x4096 _ rfl rfl 584 rfl
    (ix3 b n ⟨512 * i.val + (64 * j.val + (8 * k.val + l.val)), by omega⟩)
    (fun y hy => by fin_cases y <;> first | rfl | exact absurd rfl hy) rfl).trans
  (shapeCast_apply _ _ _ _ (by
    rw [Shape.rowMajor_val_six, Shape.rowMajor_val_three]
    show ((((b.val * 128 + n.val) * 8 + i.val) * 8 + j.val) * 8 + k.val) * 8 + l.val = (b.val * 128 + n.val) * 4096 + (512 * i.val + (64 * j.val + (8 * k.val + l.val))); omega))

variable {v1 v2 v3 v4}

theorem hidden_eq {H : Fin 128 → TA} {b : Fin 8} (h1 : ∀ n i, v1 (ix3 b n i) = ((H n).l1 i : EReal)) (h2 : ∀ n i j, v2 (ix4 b n i j) = ((H n).l2 i j : EReal))
    (h3 : ∀ n i j k, v3 (ix5 b n i j k) = ((H n).l3 i j k : EReal)) (h4 : ∀ n i j k l, v4 (ix6 b n i j k l) = ((H n).l4 i j k l : EReal))
    (w1 : FVec Ideal S4680x256 .f32) (w2 : FVec Ideal S256 .f32) (q : Fin 256) :
    hidden (mean (flat v1 v2 v3 v4)) w1 w2 (ix2 b q) = dense (TA.pool H) (fun k => w1 (ix2 k q)) (w2 (ix1 q)) := by
  rw [hidden_at, dense, sum4680]
  refine congrArg (fun z => max (z + _) 0) (congrArg₂ (· + ·) (congrArg₂ (· + ·) (congrArg₂ (· + ·) ?_ ?_) ?_) ?_)
  · exact Finset.sum_congr rfl fun a _ => congrArg (· * _) (mean_at fun n => (flat_first ..).trans (h1 n a))
  · exact Finset.sum_congr rfl fun a _ => Finset.sum_congr rfl fun b _ => congrArg (· * _) (mean_at fun n => (flat_second ..).trans (h2 n a b))
  · exact Finset.sum_congr rfl fun m _ => Finset.sum_congr rfl fun a _ => Finset.sum_congr rfl fun b _ =>
      congrArg (· * _) (mean_at fun n => (flat_third ..).trans (h3 n m a b))
  · exact Finset.sum_congr rfl fun m _ => Finset.sum_congr rfl fun a _ => Finset.sum_congr rfl fun b _ => Finset.sum_congr rfl fun j _ =>
      congrArg (· * _) (mean_at fun n => (flat_fourth ..).trans (h4 n m a b j))

/-- The reference's result, of what the loop leaves. -/
theorem out_at {V : Valuation τ sig (Elt Ideal)} {H : Fin 8 → Fin 128 → TA} (h : Holds V H)
    {w1 : FVec Ideal S4680x256 .f32} {w2 : FVec Ideal S256 .f32} {w3 : FVec Ideal S256x1 .f32} {w4 : FVec Ideal S1 .f32}
    (e1 : V (Proc.devRef .tc main_arg1) = w1) (e2 : V (Proc.devRef .tc main_arg2) = w2) (e3 : V (Proc.devRef .tc main_arg3) = w3)
    (e4 : V (Proc.devRef .tc main_arg4) = w4) (b : Fin 8) :
    (out_main_v178 V : FVec Ideal S8x1 .f32) (ix2 b 0)
      = (∑ q, dense (TA.pool (H b)) (fun k => w1 (ix2 k q)) (w2 (ix1 q)) * w3 (ix2 q 0)) + w4 (ix1 0) := by
  subst e1 e2 e3 e4
  refine (result_at _ _ _ b).trans (congrArg (· + _) (Finset.sum_congr rfl fun q _ => congrArg (· * _) ?_))
  exact hidden_eq (fun n i => h.l1 b n i) (fun n i j => h.l2 b n i j) (fun n i j k => h.l3 b n i j k) (fun n i j k l => h.l4 b n i j k l) _ _ q

end Cert.ReferenceIdeal.Out

end
-- ==== Proof.ReferenceIdeal.Answer.lean ====
module

public import proofs.«01_k».proof.Proof.ReferenceIdeal.Start
public import proofs.«01_k».proof.Proof.ReferenceIdeal.Out

/-! What the reference returns, in mathematics. -/

@[expose] public section

set_option maxRecDepth 16384

noncomputable section

namespace Cert.ReferenceIdeal.Answer

open Idealize.ShloMosaic Cert.ReferenceIdeal Cert.ReferenceIdeal.Gen Cert.ReferenceIdeal.Value
open Cert.ReferenceIdeal.Step Cert.ReferenceIdeal.Increments Cert.ReferenceIdeal.Start Cert.Algebra
open Idealize.ShloMosaic.TcCoe Idealize.ShloMosaic.StableHlo

/-- The hidden layer at one unit: the averaged logarithms of the prefix products, weighted, shifted and clipped. -/
def unit (x : FVec Ideal S8x2048x7 .f32) (b : Fin 8) (W : Fin 4680 → EReal) (s : EReal) : EReal :=
  dense (TA.pool fun n => TA.log (TA.scan (fun n => TA.signature (incr x b n) 16) 7 n)) W s

/-- The network's answer for one path of the batch. -/
def answer (x : FVec Ideal S8x2048x7 .f32) (w1 : FVec Ideal S4680x256 .f32) (w2 : FVec Ideal S256 .f32) (w3 : FVec Ideal S256x1 .f32)
    (w4 : FVec Ideal S1 .f32) (b : Fin 8) : EReal :=
  (∑ q : Fin 256, unit x b (fun k => w1 (ix2 k q)) (w2 (ix1 q)) * w3 (ix2 q 0)) + w4 (ix1 0)

/-- Every result's index is a path's. -/
theorem index (i : S8x1.Idx) : i = ix2 (i 0) 0 := by
  funext a
  match a with
  | ⟨0, _⟩ => rfl
  | ⟨1, _⟩ => exact Subsingleton.elim (α := Fin 1) _ _

variable {x : FVec Ideal S8x2048x7 .f32} {w1 : FVec Ideal S4680x256 .f32} {w2 : FVec Ideal S256 .f32} {w3 : FVec Ideal S256x1 .f32}
  {w4 : FVec Ideal S1 .f32}

theorem reference_at (m : (ℓ : Loc nD τ sig) → Buf (Elt Ideal) ℓ) (c : Dev nD) (h : Real x) (e0 : m ((c.tc : Thread nD τ).loc main_arg0) = x)
    (e1 : m ((c.tc : Thread nD τ).loc main_arg1) = w1) (e2 : m ((c.tc : Thread nD τ).loc main_arg2) = w2)
    (e3 : m ((c.tc : Thread nD τ).loc main_arg3) = w3) (e4 : m ((c.tc : Thread nD τ).loc main_arg4) = w4) :
    (out_main_v178 (STEP^[7] (entryContents preI m c)) : FVec Ideal S8x1 .f32) = fun i => answer x w1 w2 w3 w4 (i 0) := by
  have s := start m c e0 h
  have k := (Holds.iterate s.1 s.2 7 (Nat.le_refl 7)).1
  funext i
  have r := Out.out_at k ((iter_main_arg1 m c 7).trans e1) ((iter_main_arg2 m c 7).trans e2) ((iter_main_arg3 m c 7).trans e3)
    ((iter_main_arg4 m c 7).trans e4) (i 0)
  exact (congrArg (out_main_v178 (STEP^[7] (entryContents preI m c)) : FVec Ideal S8x1 .f32) (index i)).trans r

end Cert.ReferenceIdeal.Answer

end
-- ==== Proof.KernelIdeal.Answer.lean ====
module

public import proofs.«01_k».proof.Proof.KernelIdeal.Blocks
public import proofs.«01_k».proof.Proof.KernelIdeal.Head
public import proofs.«01_k».proof.Proof.ReferenceIdeal.Answer

/-! What the kernel returns, in mathematics. -/

@[expose] public section

set_option maxRecDepth 16384

noncomputable section

namespace Cert.KernelIdeal.Answer

open Idealize.ShloMosaic Idealize.ShloMosaic.TcCoe Idealize.ShloMosaic.StableHlo
open Cert.KernelIdeal Cert.KernelIdeal.Gen Cert.KernelIdeal.Calc Cert.KernelIdeal.Run Cert.KernelIdeal.Blocks Cert.KernelIdeal.Host
open Cert.ReferenceIdeal.Increments (Real)
open Cert.ReferenceIdeal.Start (incr)
open Cert.ReferenceIdeal.Answer (answer unit)

variable (m : (ℓ : Loc nD τ sig) → Buf (Elt Ideal) ℓ) (c : Dev nD)
variable {x : FVec Ideal S8x2048x7 .f32} {w1 : FVec Ideal S4680x256 .f32} {w2 : FVec Ideal S256 .f32} {w3 : FVec Ideal S256x1 .f32}
  {w4 : FVec Ideal S1 .f32}

/-- The increments' block, as the body's loads find it. -/
theorem scanned_at (e0 : m ((c.tc).loc main_arg0) = x) (h : Real x) (t : Fin cfg0.N) :
    Rep (fun n => Algebra.TA.scan (fun n => Algebra.TA.signature (incr x (path t) n) 16) 7 n)
      (Body.scanned (Body.body (F := Ideal)).1.1 (iblk m c 0 t)) :=
  Rep.scanned (d := fun s a n => incr x (path t) n s a)
    (fun a n => (first_load (iblk m c 0 t) a n).trans ((block0 m c t 0 a n).trans (entry0 m c e0 h (path t) 0 a n)))
    (fun k a n => (slab_load (iblk m c 0 t) k a n).trans ((block0 m c t _ a n).trans (entry0 m c e0 h (path t) _ a n)))

/-- What the body leaves in the result's block. -/
theorem body_at (e0 : m ((c.tc).loc main_arg0) = x) (e1 : m ((c.tc).loc main_arg1) = w1) (e2 : m ((c.tc).loc main_arg2) = w2)
    (e3 : m ((c.tc).loc main_arg3) = w3) (e4 : m ((c.tc).loc main_arg4) = w4) (h : Real x) (t : Fin cfg0.N) :
    (out0_5 (iblk m c 0 t) (iblk m c 1 t) (iblk m c 2 t) (iblk m c 3 t) (iblk m c 4 t) : FVec Ideal S1x1x1 .f32) (ix3 0 0 0)
      = answer x w1 w2 w3 w4 (path t) := by
  subst e1 e2 e3 e4
  rw [out0_5, whole5, body_result, result_at, whole3, whole4, whole2, answer]
  refine congrArg₂ (· + ·) (Finset.sum_congr rfl fun q _ => congrArg₂ (· * ·) ?_ ?_) ?_
  · rw [unit]
    refine Rep.hidden_eq (scanned_at m c e0 h t) q (fun k => ?_) (fun k => ?_) (fun j p a b => ?_) ?_
    · rw [first_rows, block1, entry1]
      exact weights_first _ ⟨k.val, by omega⟩ q
    · rw [third_rows, block1, entry1]
      exact weights_first _ ⟨72 + k.val, by omega⟩ q
    · rw [fourth_rows, block1, entry1]
      exact weights_fourth _ j p a b q
    · rw [block2]
      exact entry2 m c q
  · rw [block3, V_main_arg3]
  · rw [block4]
    exact entry4 m c

/-- The region's result array. -/
theorem region (e0 : m ((c.tc).loc main_arg0) = x) (e1 : m ((c.tc).loc main_arg1) = w1) (e2 : m ((c.tc).loc main_arg2) = w2)
    (e3 : m ((c.tc).loc main_arg3) = w3) (e4 : m ((c.tc).loc main_arg4) = w4) (h : Real x) :
    ((dats m 0 c).arrAt 5 cfg0.N : FVec Ideal S8x1x1 .f32) = fun i => answer x w1 w2 w3 w4 (i 0) := by
  refine (dats m 0 c).arrAt_eq_of_covers 5 _ (by decide +kernel) fun t hf y => ?_
  blk_simp
  rw [after0_5]
  have ey : y = (ix3 0 0 0 : S1x1x1.Idx) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
  subst ey
  refine (body_at m c e0 e1 e2 e3 e4 h t).trans (congrArg (answer x w1 w2 w3 w4) (Fin.ext ?_))
  blk_simp [idx5 t]
  show t.val = t.val + 0
  omega

/-- The result, after the last reshape. -/
theorem suffix (U : Valuation τ sig (Elt Ideal)) :
    (after [hostOps1].flatten U (Proc.devRef .tc main_v17) : FVec Ideal S8x1 .f32) = shapeCast S8x1 (U (Proc.devRef .tc main_v16)) shapeCasts_S8x1x1_S8x1 := by
  after_reads_simp
  rfl

theorem dropped (v : FVec Ideal S8x1x1 .f32) (b : Fin 8) : shapeCast S8x1 v shapeCasts_S8x1x1_S8x1 (ix2 b 0) = v (ix3 b 0 0) :=
  shapeCast_apply _ _ _ _ (by
    rw [Shape.rowMajor_val_three, Shape.rowMajor_val_two]
    show (b.val * 1 + 0) * 1 + 0 = b.val * 1 + 0; omega)

/-- The result buffer when the lines after the launch are done. -/
theorem result_eq (e0 : m ((c.tc).loc main_arg0) = x) (e1 : m ((c.tc).loc main_arg1) = w1) (e2 : m ((c.tc).loc main_arg2) = w2)
    (e3 : m ((c.tc).loc main_arg3) = w3) (e4 : m ((c.tc).loc main_arg4) = w4) (h : Real x) :
    (Pipeline.afterTail₀ cfgs (dats m) 0 (V0 m) [hostOps1] c main_v17 : FVec Ideal S8x1 .f32) = fun i => answer x w1 w2 w3 w4 (i 0) := by
  unfold Pipeline.afterTail₀
  refine (suffix _).trans ?_
  have r : Pipeline.withArrays (cfgs 0).spec c (V0 m c) (fun w => (dats m 0 c).arrAt w (cfgs 0).N) (Proc.devRef .tc main_v16) = (dats m 0 c).arrAt 5 cfg0.N :=
    Pipeline.withArrays_arr spec0 (by decide) c (V0 m c) (fun w => (dats m 0 c).arrAt w cfg0.N) 5
  refine (congrArg (fun v => shapeCast S8x1 v shapeCasts_S8x1x1_S8x1) (r.trans (region m c e0 e1 e2 e3 e4 h))).trans ?_
  funext i
  exact (congrArg (shapeCast S8x1 _ shapeCasts_S8x1x1_S8x1) (Cert.ReferenceIdeal.Answer.index i)).trans (dropped _ (i 0))

/-- The kernel's run ends with the result buffer at what those lines leave. -/
theorem run (g : Dev nD → PrngReg) : θ_run defs (onTc (τ := τ) (main (F := Ideal))) ⟨m, fun _ => 0, g⟩ (fun r => ∀ c : Dev nD,
      r.2.mem ((c.tc : Thread nD τ).loc main_v17) = Pipeline.afterTail₀ cfgs (dats m) 0 (V0 m) [hostOps1] c main_v17) :=
  (θ_run defs _ _).mono (fun _ h c => (h c).2 main_v17 (Pipeline.mem_restRefs_of main_v17 rfl (by decide))) (run_main m g)

end Cert.KernelIdeal.Answer

end
-- ==== Proof.Algebraic.lean ====
module

public import proofs.«01_k».proof.Defs
public import proofs.«01_k».proof.Proof.Finite
public import proofs.«01_k».proof.Proof.KernelIdeal.Answer

/-! The kernel and the reference return equal results. -/

@[expose] public section

noncomputable section

namespace Cert.Algebraic

open Idealize.ShloMosaic Idealize.SL.Sem Cert.KernelIdeal Cert.KernelIdeal.Gen

/-- From memories that agree on the arguments, with every entry of the path a real number, both runs end at the answer. -/
theorem equal : Cert.algebraic_KernelIdeal_ReferenceIdeal_pre_finite_x := by
  intro m g m' g' hp ha
  have real := fun c => Finite.real (hp c)
  refine ⟨fun c => Pipeline.afterTail₀ cfgs (KernelIdeal.Run.dats m) 0 (V0 m) [hostOps1] c main_v17, ?_, ?_⟩
  · exact (θ_run _ _ _).mono (fun r h c => ⟨h.1 c, h.2 c⟩) (θ_run_and (KernelIdeal.Answer.run m g) (KernelIdeal.Run.unchanged m g))
  · refine (θ_run _ _ _).mono (fun r h c => ⟨?_, (h c).2⟩) (ReferenceIdeal.Value.run m' g')
    obtain ⟨a0, a1, a2, a3, a4⟩ := ha c
    refine (h c).1.trans ((ReferenceIdeal.Answer.reference_at m' c (real c) a0 a1 a2 a3 a4).trans ?_)
    exact (KernelIdeal.Answer.result_eq m c rfl rfl rfl rfl rfl (real c)).symm

end Cert.Algebraic

end
-- ==== Proof.lean ====
/- The certificate's claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_x
public import proofs.«01_k».proof.Proof.Kernel.Run
public import proofs.«01_k».proof.Proof.KernelIdeal.Run
public import proofs.«01_k».proof.Proof.ReferenceIdeal.Frame
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_x.Gen.facts,
  fun m g _ => Cert.Kernel.Run.frame m g,
  fun m g _ => Cert.KernelIdeal.Run.frame m g,
  fun m g _ => Cert.KernelIdeal.Run.frame m g,
  fun m g _ => Cert.ReferenceIdeal.Frame.frame m g,
  fun m g _ => Cert.ReferenceIdeal.Frame.frame m g,
  Cert.Preserves.third,
  Cert.Algebraic.equal⟩

end Cert.Proof

end
